-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unpadded_finite [hPre_unpadded_finite : Cert.Pre_unpadded_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unpadded_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unpadded_finite [hPre_unpadded_finite : Cert.Pre_unpadded_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unpadded_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_unpadded_finite [hKernelIdeal : Cert.KernelIdeal.Facts] [hPre_unpadded_finite : Cert.Pre_unpadded_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unpadded_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_unpadded_finite [hReferenceIdeal : Cert.ReferenceIdeal.Facts] [hPre_unpadded_finite : Cert.Pre_unpadded_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unpadded_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_unpadded_finite [hKernelIdeal : Cert.KernelIdeal.Facts] [hReferenceIdeal : Cert.ReferenceIdeal.Facts] [hPre_unpadded_finite : Cert.Pre_unpadded_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unpadded_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_unpadded_finite : Cert.Pre_unpadded_finite.Facts),
    quiescent_Kernel (hKernel := hKernel)
    ∧ quiescent_KernelIdeal (hKernelIdeal := hKernelIdeal)
    ∧ quiescent_KernelIdeal_pre_unpadded_finite (hKernelIdeal := hKernelIdeal) (hPre_unpadded_finite := hPre_unpadded_finite)
    ∧ quiescent_ReferenceIdeal (hReferenceIdeal := hReferenceIdeal)
    ∧ quiescent_ReferenceIdeal_pre_unpadded_finite (hReferenceIdeal := hReferenceIdeal) (hPre_unpadded_finite := hPre_unpadded_finite)
    ∧ preserves_Kernel_KernelIdeal
    ∧ algebraic_KernelIdeal_ReferenceIdeal_pre_unpadded_finite (hKernelIdeal := hKernelIdeal) (hReferenceIdeal := hReferenceIdeal) (hPre_unpadded_finite := hPre_unpadded_finite)
-- ==== Pre_unpadded_finite.lean ====
abbrev S8x512x16x128 : Shape := ⟨4, ![8, 512, 16, 128]⟩
abbrev S8x512x16 : Shape := ⟨3, ![8, 512, 16]⟩
abbrev S512x128 : Shape := ⟨2, ![512, 128]⟩
abbrev S512 : Shape := ⟨1, ![512]⟩
abbrev S1x128 : Shape := ⟨2, ![1, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S8x512x16 : S_.BroadcastsInDim S8x512x16 (![] : Fin 0 → Fin S8x512x16.rank)
  reducesTo_S8x512x16_S_d0_1_2 : S8x512x16.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S8x512x16x128 .f32) (main_arg1 : FVec F S8x512x16 .f32) (main_arg2 : FVec F S512x128 .f32) (main_arg3 : FVec F S512x128 .f32) (main_arg4 : FVec F S512 .f32) (main_arg5 : FVec F S512 .f32) (main_arg6 : FVec F S1x128 .f32) (main_arg7 : FVec F S128x128 .f32) (main_arg8 : FVec F S128 .f32) (main_arg9 : FVec F S10x128 .f32) (main_arg10 : FVec F S10 .f32) (main_arg11 : FVec F S1x128 .f32) : IVec S_ 1 :=
  let main_cst : FVec F S_ .f32 := constant S_ .f32 0x3F800000#32
  let main_v0 : FVec F S8x512x16 .f32 := broadcastInDim S8x512x16 ![] bcast_S_S8x512x16 main_cst
  let main_v1 : IVec S8x512x16 1 := cmpf .oeq main_arg1 main_v0
  let main_c : IVec S_ 1 := constantI S_ 1 1#1
  let main_v2 : IVec S_ 1 := (fun x v => Host.reduce IntOp.andi x v reducesTo_S8x512x16_S_d0_1_2 h_S_) main_v1 main_c
  let main_v3 : FVec F S1x128 .f32 := Host.absf main_arg6
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_c_1 : IVec S_ 1 := constantI S_ 1 1#1
  let main_v6 : IVec S_ 1 := (fun x v => Host.reduce IntOp.andi x v reducesTo_S1x128_S_d0_1 h_S_) main_v5 main_c_1
  let main_v7 : IVec S_ 1 := andi main_v2 main_v6
  main_v7
-- ==== Kernel.lean ====
abbrev S8x512x16x128 : Shape := ⟨4, ![8, 512, 16, 128]⟩
abbrev S8x512x16 : Shape := ⟨3, ![8, 512, 16]⟩
abbrev S512x128 : Shape := ⟨2, ![512, 128]⟩
abbrev S512 : Shape := ⟨1, ![512]⟩
abbrev S1x128 : Shape := ⟨2, ![1, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S128x512x128 : Shape := ⟨3, ![128, 512, 128]⟩
abbrev S128x512 : Shape := ⟨2, ![128, 512]⟩
abbrev S1x512 : Shape := ⟨2, ![1, 512]⟩
abbrev S128x1 : Shape := ⟨2, ![128, 1]⟩
abbrev S8x16x128 : Shape := ⟨3, ![8, 16, 128]⟩
abbrev S1x1x128 : Shape := ⟨3, ![1, 1, 128]⟩
abbrev S128x10 : Shape := ⟨2, ![128, 10]⟩
abbrev S1x10 : Shape := ⟨2, ![1, 10]⟩
abbrev S8x10 : Shape := ⟨2, ![8, 10]⟩
abbrev S2x32x128x128 : Shape := ⟨4, ![2, 32, 128, 128]⟩
abbrev S4096x512 : Shape := ⟨2, ![4096, 512]⟩
abbrev S2 : Shape := ⟨1, ![2]⟩
abbrev S1 : Shape := ⟨1, ![1]⟩
abbrev S_ : Shape := ⟨0, ![]⟩
abbrev S1x1x128x128 : Shape := ⟨4, ![1, 1, 128, 128]⟩
abbrev S128x1x128 : Shape := ⟨3, ![128, 1, 128]⟩
abbrev S1x32x128x128 : Shape := ⟨4, ![1, 32, 128, 128]⟩
abbrev S32x128x128 : Shape := ⟨3, ![32, 128, 128]⟩
abbrev S4096x128 : Shape := ⟨2, ![4096, 128]⟩
abbrev S8x16 : Shape := ⟨2, ![8, 16]⟩
abbrev S8 : Shape := ⟨1, ![8]⟩
abbrev S8x1 : Shape := ⟨2, ![8, 1]⟩
abbrev S8x16x1 : Shape := ⟨3, ![8, 16, 1]⟩
abbrev S8x128 : Shape := ⟨2, ![8, 128]⟩

abbrev nBuf : Space → Nat
  | .hbm => 26
  | .vmem => 18
  | .smem => 0
  | _ => 0

abbrev bufTy : (tb : Table) → Fin (tcTables nBuf tb) → BufTy
  | .hbm, ⟨0, _⟩ => ⟨S8x512x16x128, .f32⟩
  | .hbm, ⟨1, _⟩ => ⟨S8x512x16, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S1x128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S10, .f32⟩
  | .hbm, ⟨11, _⟩ => ⟨S1x128, .f32⟩
  | .hbm, ⟨12, _⟩ => ⟨S128x512x128, .f32⟩
  | .hbm, ⟨13, _⟩ => ⟨S128x512, .f32⟩
  | .hbm, ⟨14, _⟩ => ⟨S128x512, .f32⟩
  | .hbm, ⟨15, _⟩ => ⟨S512, .f32⟩
  | .hbm, ⟨16, _⟩ => ⟨S1x512, .f32⟩
  | .hbm, ⟨17, _⟩ => ⟨S128x1, .f32⟩
  | .hbm, ⟨18, _⟩ => ⟨S128x128, .f32⟩
  | .hbm, ⟨19, _⟩ => ⟨S1x128, .f32⟩
  | .hbm, ⟨20, _⟩ => ⟨S128x128, .f32⟩
  | .hbm, ⟨21, _⟩ => ⟨S8x16x128, .f32⟩
  | .hbm, ⟨22, _⟩ => ⟨S1x1x128, .f32⟩
  | .hbm, ⟨23, _⟩ => ⟨S128x10, .f32⟩
  | .hbm, ⟨24, _⟩ => ⟨S1x10, .f32⟩
  | .hbm, ⟨25, _⟩ => ⟨S8x10, .f32⟩
  | .local _ .vmem, ⟨0, _⟩ => ⟨S128x512, .f32⟩
  | .local _ .vmem, ⟨1, _⟩ => ⟨S128x512, .f32⟩
  | .local _ .vmem, ⟨2, _⟩ => ⟨S1x512, .f32⟩
  | .local _ .vmem, ⟨3, _⟩ => ⟨S128x1, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2x32x128x128, .f32⟩
  | .local _ .vmem, ⟨8, _⟩ => ⟨S4096x512, .f32⟩
  | .local _ .vmem, ⟨9, _⟩ => ⟨S128x128, .f32⟩
  | .local _ .vmem, ⟨10, _⟩ => ⟨S128x128, .f32⟩
  | .local _ .vmem, ⟨11, _⟩ => ⟨S128x1, .f32⟩
  | .local _ .vmem, ⟨12, _⟩ => ⟨S128x128, .f32⟩
  | .local _ .vmem, ⟨13, _⟩ => ⟨S8x16x128, .f32⟩
  | .local _ .vmem, ⟨14, _⟩ => ⟨S1x1x128, .f32⟩
  | .local _ .vmem, ⟨15, _⟩ => ⟨S128x10, .f32⟩
  | .local _ .vmem, ⟨16, _⟩ => ⟨S1x10, .f32⟩
  | .local _ .vmem, ⟨17, _⟩ => ⟨S8x10, .f32⟩
  | _, _ => ⟨S8x512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_v0 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  ![v2221.toNat]
def k0_off2 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c0_i32_1278 : BitVec 32 := 0#32
  let c0_i32_1279 : BitVec 32 := 0#32
  let c0_i32_1280 : BitVec 32 := 0#32
  ![v2221.toNat, 0, 0, 0]
def k0_off3 (i : grid0.Coords) (c0_i32_1277 : BitVec 32) : Fin 3 → Nat :=
  let c0_i32_1281 : BitVec 32 := 0#32
  let arg0 : BitVec 32 := BitVec.ofNat 32 (i 0).val
  let c1_i32_1268 : BitVec 32 := 1#32
  let v2210 : BitVec 32 := Scalar.addi arg0 c1_i32_1268
  let c32_i32_1276 : BitVec 32 := 32#32
  let v2222 : BitVec 32 := Scalar.muli v2210 c32_i32_1276
  let v2223 : BitVec 32 := Scalar.addi v2222 c0_i32_1277
  let c0_i32_1282 : BitVec 32 := 0#32
  ![0, v2223.toNat, 0]
def k0_off4 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c1_i32_1285 : BitVec 32 := 1#32
  let c0_i32_1286 : BitVec 32 := 0#32
  let c0_i32_1287 : BitVec 32 := 0#32
  ![v2221.toNat, 1, 0, 0]
def k0_off5 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c2_i32_1292 : BitVec 32 := 2#32
  let c0_i32_1293 : BitVec 32 := 0#32
  let c0_i32_1294 : BitVec 32 := 0#32
  ![v2221.toNat, 2, 0, 0]
def k0_off6 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c3_i32_1299 : BitVec 32 := 3#32
  let c0_i32_1300 : BitVec 32 := 0#32
  let c0_i32_1301 : BitVec 32 := 0#32
  ![v2221.toNat, 3, 0, 0]
def k0_off7 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c4_i32_1306 : BitVec 32 := 4#32
  let c0_i32_1307 : BitVec 32 := 0#32
  let c0_i32_1308 : BitVec 32 := 0#32
  ![v2221.toNat, 4, 0, 0]
def k0_off8 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c5_i32_1313 : BitVec 32 := 5#32
  let c0_i32_1314 : BitVec 32 := 0#32
  let c0_i32_1315 : BitVec 32 := 0#32
  ![v2221.toNat, 5, 0, 0]
def k0_off9 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c6_i32_1320 : BitVec 32 := 6#32
  let c0_i32_1321 : BitVec 32 := 0#32
  let c0_i32_1322 : BitVec 32 := 0#32
  ![v2221.toNat, 6, 0, 0]
def k0_off10 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c7_i32_1327 : BitVec 32 := 7#32
  let c0_i32_1328 : BitVec 32 := 0#32
  let c0_i32_1329 : BitVec 32 := 0#32
  ![v2221.toNat, 7, 0, 0]
def k0_off11 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c8_i32_1334 : BitVec 32 := 8#32
  let c0_i32_1335 : BitVec 32 := 0#32
  let c0_i32_1336 : BitVec 32 := 0#32
  ![v2221.toNat, 8, 0, 0]
def k0_off12 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c9_i32_1341 : BitVec 32 := 9#32
  let c0_i32_1342 : BitVec 32 := 0#32
  let c0_i32_1343 : BitVec 32 := 0#32
  ![v2221.toNat, 9, 0, 0]
def k0_off13 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c10_i32_1348 : BitVec 32 := 10#32
  let c0_i32_1349 : BitVec 32 := 0#32
  let c0_i32_1350 : BitVec 32 := 0#32
  ![v2221.toNat, 10, 0, 0]
def k0_off14 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c11_i32_1355 : BitVec 32 := 11#32
  let c0_i32_1356 : BitVec 32 := 0#32
  let c0_i32_1357 : BitVec 32 := 0#32
  ![v2221.toNat, 11, 0, 0]
def k0_off15 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c12_i32_1362 : BitVec 32 := 12#32
  let c0_i32_1363 : BitVec 32 := 0#32
  let c0_i32_1364 : BitVec 32 := 0#32
  ![v2221.toNat, 12, 0, 0]
def k0_off16 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c13_i32_1369 : BitVec 32 := 13#32
  let c0_i32_1370 : BitVec 32 := 0#32
  let c0_i32_1371 : BitVec 32 := 0#32
  ![v2221.toNat, 13, 0, 0]
def k0_off17 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c14_i32_1376 : BitVec 32 := 14#32
  let c0_i32_1377 : BitVec 32 := 0#32
  let c0_i32_1378 : BitVec 32 := 0#32
  ![v2221.toNat, 14, 0, 0]
def k0_off18 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c15_i32_1383 : BitVec 32 := 15#32
  let c0_i32_1384 : BitVec 32 := 0#32
  let c0_i32_1385 : BitVec 32 := 0#32
  ![v2221.toNat, 15, 0, 0]
def k0_off19 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c16_i32_1390 : BitVec 32 := 16#32
  let c0_i32_1391 : BitVec 32 := 0#32
  let c0_i32_1392 : BitVec 32 := 0#32
  ![v2221.toNat, 16, 0, 0]
def k0_off20 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c17_i32_1397 : BitVec 32 := 17#32
  let c0_i32_1398 : BitVec 32 := 0#32
  let c0_i32_1399 : BitVec 32 := 0#32
  ![v2221.toNat, 17, 0, 0]
def k0_off21 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c18_i32_1404 : BitVec 32 := 18#32
  let c0_i32_1405 : BitVec 32 := 0#32
  let c0_i32_1406 : BitVec 32 := 0#32
  ![v2221.toNat, 18, 0, 0]
def k0_off22 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c19_i32_1411 : BitVec 32 := 19#32
  let c0_i32_1412 : BitVec 32 := 0#32
  let c0_i32_1413 : BitVec 32 := 0#32
  ![v2221.toNat, 19, 0, 0]
def k0_off23 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c20_i32_1418 : BitVec 32 := 20#32
  let c0_i32_1419 : BitVec 32 := 0#32
  let c0_i32_1420 : BitVec 32 := 0#32
  ![v2221.toNat, 20, 0, 0]
def k0_off24 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c21_i32_1425 : BitVec 32 := 21#32
  let c0_i32_1426 : BitVec 32 := 0#32
  let c0_i32_1427 : BitVec 32 := 0#32
  ![v2221.toNat, 21, 0, 0]
def k0_off25 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c22_i32_1432 : BitVec 32 := 22#32
  let c0_i32_1433 : BitVec 32 := 0#32
  let c0_i32_1434 : BitVec 32 := 0#32
  ![v2221.toNat, 22, 0, 0]
def k0_off26 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c23_i32_1439 : BitVec 32 := 23#32
  let c0_i32_1440 : BitVec 32 := 0#32
  let c0_i32_1441 : BitVec 32 := 0#32
  ![v2221.toNat, 23, 0, 0]
def k0_off27 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c24_i32_1446 : BitVec 32 := 24#32
  let c0_i32_1447 : BitVec 32 := 0#32
  let c0_i32_1448 : BitVec 32 := 0#32
  ![v2221.toNat, 24, 0, 0]
def k0_off28 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c25_i32_1453 : BitVec 32 := 25#32
  let c0_i32_1454 : BitVec 32 := 0#32
  let c0_i32_1455 : BitVec 32 := 0#32
  ![v2221.toNat, 25, 0, 0]
def k0_off29 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c26_i32_1460 : BitVec 32 := 26#32
  let c0_i32_1461 : BitVec 32 := 0#32
  let c0_i32_1462 : BitVec 32 := 0#32
  ![v2221.toNat, 26, 0, 0]
def k0_off30 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c27_i32_1467 : BitVec 32 := 27#32
  let c0_i32_1468 : BitVec 32 := 0#32
  let c0_i32_1469 : BitVec 32 := 0#32
  ![v2221.toNat, 27, 0, 0]
def k0_off31 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c28_i32_1474 : BitVec 32 := 28#32
  let c0_i32_1475 : BitVec 32 := 0#32
  let c0_i32_1476 : BitVec 32 := 0#32
  ![v2221.toNat, 28, 0, 0]
def k0_off32 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c29_i32_1481 : BitVec 32 := 29#32
  let c0_i32_1482 : BitVec 32 := 0#32
  let c0_i32_1483 : BitVec 32 := 0#32
  ![v2221.toNat, 29, 0, 0]
def k0_off33 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c30_i32_1488 : BitVec 32 := 30#32
  let c0_i32_1489 : BitVec 32 := 0#32
  let c0_i32_1490 : BitVec 32 := 0#32
  ![v2221.toNat, 30, 0, 0]
def k0_off34 (i : grid0.Coords) : Fin 4 → Nat :=
  let arg0 : BitVec 32 := BitVec.ofNat 32 (i 0).val
  let c1_i32_1269 : BitVec 32 := 1#32
  let v2211 : BitVec 32 := Scalar.addi arg0 c1_i32_1269
  let c2_i32_1270 : BitVec 32 := 2#32
  let c0_i32_1271 : BitVec 32 := 0#32
  let v2212 : BitVec 1 := Scalar.cmpi .eq c2_i32_1270 c0_i32_1271
  let c1_i32_1272 : BitVec 32 := 1#32
  let v2213 : BitVec 32 := Scalar.select v2212 c1_i32_1272 c2_i32_1270
  let v2214 : BitVec 32 := Scalar.remsi v2211 v2213
  let c0_i32_1274 : BitVec 32 := 0#32
  let v2216 : BitVec 1 := Scalar.cmpi .slt v2214 c0_i32_1274
  let c0_i32_1275 : BitVec 32 := 0#32
  let v2217 : BitVec 1 := Scalar.cmpi .slt v2213 c0_i32_1275
  let v2218 : BitVec 1 := Scalar.xori v2216 v2217
  let c0_i32_1273 : BitVec 32 := 0#32
  let v2215 : BitVec 1 := Scalar.cmpi .ne v2214 c0_i32_1273
  let v2219 : BitVec 1 := Scalar.andi v2218 v2215
  let v2220 : BitVec 32 := Scalar.addi v2214 v2213
  let v2221 : BitVec 32 := Scalar.select v2219 v2220 v2214
  let c31_i32_1495 : BitVec 32 := 31#32
  let c0_i32_1496 : BitVec 32 := 0#32
  let c0_i32_1497 : BitVec 32 := 0#32
  ![v2221.toNat, 31, 0, 0]
def k0_off35 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off36 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_8 : BitVec 32 := 0#32
  let c0_i32_9 : BitVec 32 := 0#32
  let c0_i32_10 : BitVec 32 := 0#32
  ![v16.toNat, 0, 0, 0]
def k0_off37 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_14 : BitVec 32 := 1#32
  let c0_i32_15 : BitVec 32 := 0#32
  let c0_i32_16 : BitVec 32 := 0#32
  ![v16.toNat, 1, 0, 0]
def k0_off38 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c2_i32_20 : BitVec 32 := 2#32
  let c0_i32_21 : BitVec 32 := 0#32
  let c0_i32_22 : BitVec 32 := 0#32
  ![v16.toNat, 2, 0, 0]
def k0_off39 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c3_i32_25 : BitVec 32 := 3#32
  let c0_i32_26 : BitVec 32 := 0#32
  let c0_i32_27 : BitVec 32 := 0#32
  ![v16.toNat, 3, 0, 0]
def k0_off40 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c4_i32_30 : BitVec 32 := 4#32
  let c0_i32_31 : BitVec 32 := 0#32
  let c0_i32_32 : BitVec 32 := 0#32
  ![v16.toNat, 4, 0, 0]
def k0_off41 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c5_i32_35 : BitVec 32 := 5#32
  let c0_i32_36 : BitVec 32 := 0#32
  let c0_i32_37 : BitVec 32 := 0#32
  ![v16.toNat, 5, 0, 0]
def k0_off42 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c6_i32_40 : BitVec 32 := 6#32
  let c0_i32_41 : BitVec 32 := 0#32
  let c0_i32_42 : BitVec 32 := 0#32
  ![v16.toNat, 6, 0, 0]
def k0_off43 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c7_i32_45 : BitVec 32 := 7#32
  let c0_i32_46 : BitVec 32 := 0#32
  let c0_i32_47 : BitVec 32 := 0#32
  ![v16.toNat, 7, 0, 0]
def k0_off44 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c8_i32_50 : BitVec 32 := 8#32
  let c0_i32_51 : BitVec 32 := 0#32
  let c0_i32_52 : BitVec 32 := 0#32
  ![v16.toNat, 8, 0, 0]
def k0_off45 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c9_i32_55 : BitVec 32 := 9#32
  let c0_i32_56 : BitVec 32 := 0#32
  let c0_i32_57 : BitVec 32 := 0#32
  ![v16.toNat, 9, 0, 0]
def k0_off46 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c10_i32_60 : BitVec 32 := 10#32
  let c0_i32_61 : BitVec 32 := 0#32
  let c0_i32_62 : BitVec 32 := 0#32
  ![v16.toNat, 10, 0, 0]
def k0_off47 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c11_i32_65 : BitVec 32 := 11#32
  let c0_i32_66 : BitVec 32 := 0#32
  let c0_i32_67 : BitVec 32 := 0#32
  ![v16.toNat, 11, 0, 0]
def k0_off48 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c12_i32_70 : BitVec 32 := 12#32
  let c0_i32_71 : BitVec 32 := 0#32
  let c0_i32_72 : BitVec 32 := 0#32
  ![v16.toNat, 12, 0, 0]
def k0_off49 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c13_i32_75 : BitVec 32 := 13#32
  let c0_i32_76 : BitVec 32 := 0#32
  let c0_i32_77 : BitVec 32 := 0#32
  ![v16.toNat, 13, 0, 0]
def k0_off50 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c14_i32_80 : BitVec 32 := 14#32
  let c0_i32_81 : BitVec 32 := 0#32
  let c0_i32_82 : BitVec 32 := 0#32
  ![v16.toNat, 14, 0, 0]
def k0_off51 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c15_i32_85 : BitVec 32 := 15#32
  let c0_i32_86 : BitVec 32 := 0#32
  let c0_i32_87 : BitVec 32 := 0#32
  ![v16.toNat, 15, 0, 0]
def k0_off52 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c16_i32_91 : BitVec 32 := 16#32
  let c0_i32_92 : BitVec 32 := 0#32
  let c0_i32_93 : BitVec 32 := 0#32
  ![v16.toNat, 16, 0, 0]
def k0_off53 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c17_i32_96 : BitVec 32 := 17#32
  let c0_i32_97 : BitVec 32 := 0#32
  let c0_i32_98 : BitVec 32 := 0#32
  ![v16.toNat, 17, 0, 0]
def k0_off54 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c18_i32_101 : BitVec 32 := 18#32
  let c0_i32_102 : BitVec 32 := 0#32
  let c0_i32_103 : BitVec 32 := 0#32
  ![v16.toNat, 18, 0, 0]
def k0_off55 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c19_i32_106 : BitVec 32 := 19#32
  let c0_i32_107 : BitVec 32 := 0#32
  let c0_i32_108 : BitVec 32 := 0#32
  ![v16.toNat, 19, 0, 0]
def k0_off56 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c20_i32_111 : BitVec 32 := 20#32
  let c0_i32_112 : BitVec 32 := 0#32
  let c0_i32_113 : BitVec 32 := 0#32
  ![v16.toNat, 20, 0, 0]
def k0_off57 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c21_i32_116 : BitVec 32 := 21#32
  let c0_i32_117 : BitVec 32 := 0#32
  let c0_i32_118 : BitVec 32 := 0#32
  ![v16.toNat, 21, 0, 0]
def k0_off58 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c22_i32_121 : BitVec 32 := 22#32
  let c0_i32_122 : BitVec 32 := 0#32
  let c0_i32_123 : BitVec 32 := 0#32
  ![v16.toNat, 22, 0, 0]
def k0_off59 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c23_i32_126 : BitVec 32 := 23#32
  let c0_i32_127 : BitVec 32 := 0#32
  let c0_i32_128 : BitVec 32 := 0#32
  ![v16.toNat, 23, 0, 0]
def k0_off60 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c24_i32_131 : BitVec 32 := 24#32
  let c0_i32_132 : BitVec 32 := 0#32
  let c0_i32_133 : BitVec 32 := 0#32
  ![v16.toNat, 24, 0, 0]
def k0_off61 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c25_i32_136 : BitVec 32 := 25#32
  let c0_i32_137 : BitVec 32 := 0#32
  let c0_i32_138 : BitVec 32 := 0#32
  ![v16.toNat, 25, 0, 0]
def k0_off62 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c26_i32_141 : BitVec 32 := 26#32
  let c0_i32_142 : BitVec 32 := 0#32
  let c0_i32_143 : BitVec 32 := 0#32
  ![v16.toNat, 26, 0, 0]
def k0_off63 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c27_i32_146 : BitVec 32 := 27#32
  let c0_i32_147 : BitVec 32 := 0#32
  let c0_i32_148 : BitVec 32 := 0#32
  ![v16.toNat, 27, 0, 0]
def k0_off64 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c28_i32_151 : BitVec 32 := 28#32
  let c0_i32_152 : BitVec 32 := 0#32
  let c0_i32_153 : BitVec 32 := 0#32
  ![v16.toNat, 28, 0, 0]
def k0_off65 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c29_i32_156 : BitVec 32 := 29#32
  let c0_i32_157 : BitVec 32 := 0#32
  let c0_i32_158 : BitVec 32 := 0#32
  ![v16.toNat, 29, 0, 0]
def k0_off66 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c30_i32_161 : BitVec 32 := 30#32
  let c0_i32_162 : BitVec 32 := 0#32
  let c0_i32_163 : BitVec 32 := 0#32
  ![v16.toNat, 30, 0, 0]
def k0_off67 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c31_i32_166 : BitVec 32 := 31#32
  let c0_i32_167 : BitVec 32 := 0#32
  let c0_i32_168 : BitVec 32 := 0#32
  ![v16.toNat, 31, 0, 0]
def k0_off68 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v209 : Index := Scalar.indexCast v16
  let c0 : Index := 0#32
  let c0_171 : Index := 0#32
  let c0_172 : Index := 0#32
  ![v209.toNat, 0, 0, 0]
def k0_off69 (c0_i32_179 : BitVec 32) : Fin 2 → Nat :=
  let c128_i32 : BitVec 32 := 128#32
  let v225 : BitVec 32 := Scalar.muli c0_i32_179 c128_i32
  let v226 : Index := Scalar.indexCast v225
  let c0_184 : Index := 0#32
  ![v226.toNat, 0]
def k0_cond3 (i : grid0.Coords) : BitVec 1 :=
  let arg0 : BitVec 32 := BitVec.ofNat 32 (i 0).val
  let c15_i32_1266 : BitVec 32 := 15#32
  let v2207 : BitVec 1 := Scalar.cmpi .eq arg0 c15_i32_1266
  let v2208 : BitVec 32 := Scalar.extui v2207
  let c0_i32_1267 : BitVec 32 := 0#32
  let v2209 : BitVec 1 := Scalar.cmpi .ne v2208 c0_i32_1267
  v2209

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := .none

abbrev stage1_0 : Fin 1 → Memref sig .tc .vmem S8x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S8x512x16x128 : Shape := ⟨4, ![8, 512, 16, 128]⟩
abbrev S8x512x16 : Shape := ⟨3, ![8, 512, 16]⟩
abbrev S512x128 : Shape := ⟨2, ![512, 128]⟩
abbrev S512 : Shape := ⟨1, ![512]⟩
abbrev S1x128 : Shape := ⟨2, ![1, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S128x512x128 : Shape := ⟨3, ![128, 512, 128]⟩
abbrev S_ : Shape := ⟨0, ![]⟩
abbrev S512x128x128 : Shape := ⟨3, ![512, 128, 128]⟩
abbrev S1x128x128 : Shape := ⟨3, ![1, 128, 128]⟩
abbrev S128x512 : Shape := ⟨2, ![128, 512]⟩
abbrev S1x512 : Shape := ⟨2, ![1, 512]⟩
abbrev S128x512x1 : Shape := ⟨3, ![128, 512, 1]⟩
abbrev S128x1 : Shape := ⟨2, ![128, 1]⟩
abbrev S8x16x128 : Shape := ⟨3, ![8, 16, 128]⟩
abbrev S8x16 : Shape := ⟨2, ![8, 16]⟩
abbrev S8 : Shape := ⟨1, ![8]⟩
abbrev S8x1 : Shape := ⟨2, ![8, 1]⟩
abbrev S8x16x1 : Shape := ⟨3, ![8, 16, 1]⟩
abbrev S8x128 : Shape := ⟨2, ![8, 128]⟩
abbrev S128x10 : Shape := ⟨2, ![128, 10]⟩
abbrev S8x10 : Shape := ⟨2, ![8, 10]⟩
abbrev S1x10 : Shape := ⟨2, ![1, 10]⟩

abbrev nBuf : Space → Nat
  | .hbm => 164
  | .vmem => 0
  | .smem => 0
  | _ => 0

abbrev hbmTy0_0 (i : Nat) : BufTy := match i % 128 with
  | 0 => ⟨S8x512x16x128, .f32⟩
  | 1 => ⟨S8x512x16, .f32⟩
  | 2 => ⟨S512x128, .f32⟩
  | 3 => ⟨S512x128, .f32⟩
  | 4 => ⟨S512, .f32⟩
  | 5 => ⟨S512, .f32⟩
  | 6 => ⟨S1x128, .f32⟩
  | 7 => ⟨S128x128, .f32⟩
  | 8 => ⟨S128, .f32⟩
  | 9 => ⟨S10x128, .f32⟩
  | 10 => ⟨S10, .f32⟩
  | 11 => ⟨S1x128, .f32⟩
  | 12 => ⟨S128x512x128, .f32⟩
  | 13 => ⟨S_, .f32⟩
  | 14 => ⟨S128x128, .f32⟩
  | 15 => ⟨S_, .f32⟩
  | 16 => ⟨S128x128, .f32⟩
  | 17 => ⟨S512x128x128, .f32⟩
  | 18 => ⟨S_, .f32⟩
  | 19 => ⟨S512x128x128, .f32⟩
  | 20 => ⟨S_, .i32⟩
  | 21 => ⟨S512x128x128, .f32⟩
  | 22 => ⟨S512x128, .f32⟩
  | 23 => ⟨S512x128, .f32⟩
  | 24 => ⟨S512, .f32⟩
  | 25 => ⟨S512, .f32⟩
  | 26 => ⟨S_, .i32⟩
  | 27 => ⟨S128x128, .f32⟩
  | 28 => ⟨S128x128, .f32⟩
  | 29 => ⟨S512x128x128, .f32⟩
  | 30 => ⟨S_, .i32⟩
  | 31 => ⟨S_, .i1⟩
  | 32 => ⟨S_, .i32⟩
  | 33 => ⟨S_, .i32⟩
  | 34 => ⟨S1x128x128, .f32⟩
  | 35 => ⟨S128x128, .f32⟩
  | 36 => ⟨S128x512, .f32⟩
  | 37 => ⟨S128x512, .f32⟩
  | 38 => ⟨S128x512, .f32⟩
  | 39 => ⟨S128x512, .f32⟩
  | 40 => ⟨S128x512, .f32⟩
  | 41 => ⟨S1x512, .f32⟩
  | 42 => ⟨S128x512, .f32⟩
  | 43 => ⟨S128x512, .f32⟩
  | 44 => ⟨S1x512, .f32⟩
  | 45 => ⟨S128x512, .f32⟩
  | 46 => ⟨S128x512, .f32⟩
  | 47 => ⟨S128x128, .f32⟩
  | 48 => ⟨S128x128, .f32⟩
  | 49 => ⟨S128x128, .f32⟩
  | 50 => ⟨S128x128, .f32⟩
  | 51 => ⟨S128x128, .f32⟩
  | 52 => ⟨S128x128, .f32⟩
  | 53 => ⟨S_, .f32⟩
  | 54 => ⟨S128x128, .f32⟩
  | 55 => ⟨S128x128, .f32⟩
  | 56 => ⟨S_, .f32⟩
  | 57 => ⟨S128x128, .f32⟩
  | 58 => ⟨S128x128, .f32⟩
  | 59 => ⟨S128x128, .f32⟩
  | 60 => ⟨S128x128, .f32⟩
  | 61 => ⟨S_, .f32⟩
  | 62 => ⟨S128x128, .f32⟩
  | 63 => ⟨S128x128, .f32⟩
  | 64 => ⟨S_, .f32⟩
  | 65 => ⟨S128x128, .f32⟩
  | 66 => ⟨S128x128, .f32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .f32⟩
  | 73 => ⟨S_, .f32⟩
  | 74 => ⟨S128x128, .f32⟩
  | 75 => ⟨S128x128, .f32⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S1x128x128, .f32⟩
  | 82 => ⟨S_, .i32⟩
  | 83 => ⟨S_, .i32⟩
  | 84 => ⟨S512x128x128, .f32⟩
  | 85 => ⟨S_, .i32⟩
  | 86 => ⟨S_, .i32⟩
  | 87 => ⟨S128x512x128, .f32⟩
  | 88 => ⟨S128x512, .f32⟩
  | 89 => ⟨S128x512x1, .f32⟩
  | 90 => ⟨S128x512x128, .f32⟩
  | 91 => ⟨S128x512x128, .f32⟩
  | 92 => ⟨S128, .f32⟩
  | 93 => ⟨S128x512, .f32⟩
  | 94 => ⟨S_, .f32⟩
  | 95 => ⟨S128x512, .f32⟩
  | 96 => ⟨S128x512, .i1⟩
  | 97 => ⟨S_, .f32⟩
  | 98 => ⟨S_, .f32⟩
  | 99 => ⟨S128x512, .f32⟩
  | 100 => ⟨S128x512, .f32⟩
  | 101 => ⟨S_, .f32⟩
  | 102 => ⟨S128, .f32⟩
  | 103 => ⟨S_, .f32⟩
  | 104 => ⟨S128, .f32⟩
  | 105 => ⟨S128, .f32⟩
  | 106 => ⟨S128x1, .f32⟩
  | 107 => ⟨S128x512, .f32⟩
  | 108 => ⟨S128x512, .f32⟩
  | 109 => ⟨S128x512, .f32⟩
  | 110 => ⟨S_, .f32⟩
  | 111 => ⟨S128, .f32⟩
  | 112 => ⟨S128x1, .f32⟩
  | 113 => ⟨S128x512, .f32⟩
  | 114 => ⟨S128x512, .f32⟩
  | 115 => ⟨S128x512x1, .f32⟩
  | 116 => ⟨S128x512x128, .f32⟩
  | 117 => ⟨S128x512x128, .f32⟩
  | 118 => ⟨S_, .f32⟩
  | 119 => ⟨S128x128, .f32⟩
  | 120 => ⟨S128x128, .f32⟩
  | 121 => ⟨S128x128, .f32⟩
  | 122 => ⟨S1x128, .f32⟩
  | 123 => ⟨S128x128, .f32⟩
  | 124 => ⟨S128x128, .f32⟩
  | 125 => ⟨S_, .f32⟩
  | 126 => ⟨S128x128, .f32⟩
  | 127 => ⟨S128x128, .f32⟩
  | _ => ⟨S8x512x16x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .i1⟩
  | 5 => ⟨S128, .f32⟩
  | 6 => ⟨S128x1, .f32⟩
  | 7 => ⟨S128x128, .f32⟩
  | 8 => ⟨S128x128, .f32⟩
  | 9 => ⟨S8x16x128, .f32⟩
  | 10 => ⟨S128, .f32⟩
  | 11 => ⟨S8x16, .f32⟩
  | 12 => ⟨S_, .f32⟩
  | 13 => ⟨S8, .f32⟩
  | 14 => ⟨S_, .f32⟩
  | 15 => ⟨S8, .f32⟩
  | 16 => ⟨S8, .f32⟩
  | 17 => ⟨S8x1, .f32⟩
  | 18 => ⟨S8x16, .f32⟩
  | 19 => ⟨S8x16, .f32⟩
  | 20 => ⟨S8x16, .f32⟩
  | 21 => ⟨S_, .f32⟩
  | 22 => ⟨S8, .f32⟩
  | 23 => ⟨S8x1, .f32⟩
  | 24 => ⟨S8x16, .f32⟩
  | 25 => ⟨S8x16, .f32⟩
  | 26 => ⟨S8x16x1, .f32⟩
  | 27 => ⟨S8x16x128, .f32⟩
  | 28 => ⟨S8x16x128, .f32⟩
  | 29 => ⟨S_, .f32⟩
  | 30 => ⟨S8x128, .f32⟩
  | 31 => ⟨S128x10, .f32⟩
  | 32 => ⟨S8x10, .f32⟩
  | 33 => ⟨S1x10, .f32⟩
  | 34 => ⟨S8x10, .f32⟩
  | 35 => ⟨S8x10, .f32⟩
  | _ => ⟨S8x512x16x128, .f32⟩

abbrev hbmTy (i : Nat) : BufTy := match i / 128 with
  | 0 => hbmTy0_0 i
  | 1 => hbmTy0_1 i
  | _ => ⟨S8x512x16x128, .f32⟩

abbrev bufTy : (tb : Table) → Fin (tcTables nBuf tb) → BufTy
  | .hbm, ⟨i, _⟩ => hbmTy i
  | _, _ => ⟨S8x512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_c : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v5_5 : Ref sig .tc := ⟨.hbm, 26, rfl⟩
abbrev main_v5_6 : Ref sig .tc := ⟨.hbm, 27, rfl⟩
abbrev main_v5_7 : Ref sig .tc := ⟨.hbm, 28, rfl⟩
abbrev main_v5_8 : Ref sig .tc := ⟨.hbm, 29, rfl⟩
abbrev main_while0c_c_22 : Ref sig .tc := ⟨.hbm, 30, rfl⟩
abbrev main_while0c_v67 : Ref sig .tc := ⟨.hbm, 31, rfl⟩
abbrev main_while0b_call0_c : Ref sig .tc := ⟨.hbm, 32, rfl⟩
abbrev main_while0b_call0_c_0 : Ref sig .tc := ⟨.hbm, 33, rfl⟩
abbrev main_while0b_call0_v0 : Ref sig .tc := ⟨.hbm, 34, rfl⟩
abbrev main_while0b_v67 : Ref sig .tc := ⟨.hbm, 35, rfl⟩
abbrev main_while0b_v68 : Ref sig .tc := ⟨.hbm, 36, rfl⟩
abbrev main_while0b_v69 : Ref sig .tc := ⟨.hbm, 37, rfl⟩
abbrev main_while0b_v70 : Ref sig .tc := ⟨.hbm, 38, rfl⟩
abbrev main_while0b_v71 : Ref sig .tc := ⟨.hbm, 39, rfl⟩
abbrev main_while0b_v72 : Ref sig .tc := ⟨.hbm, 40, rfl⟩
abbrev main_while0b_v73 : Ref sig .tc := ⟨.hbm, 41, rfl⟩
abbrev main_while0b_v74 : Ref sig .tc := ⟨.hbm, 42, rfl⟩
abbrev main_while0b_v75 : Ref sig .tc := ⟨.hbm, 43, rfl⟩
abbrev main_while0b_v76 : Ref sig .tc := ⟨.hbm, 44, rfl⟩
abbrev main_while0b_v77 : Ref sig .tc := ⟨.hbm, 45, rfl⟩
abbrev main_while0b_v78 : Ref sig .tc := ⟨.hbm, 46, rfl⟩
abbrev main_while0b_v79 : Ref sig .tc := ⟨.hbm, 47, rfl⟩
abbrev main_while0b_v80 : Ref sig .tc := ⟨.hbm, 48, rfl⟩
abbrev main_while0b_v81 : Ref sig .tc := ⟨.hbm, 49, rfl⟩
abbrev main_while0b_v82 : Ref sig .tc := ⟨.hbm, 50, rfl⟩
abbrev main_while0b_v83 : Ref sig .tc := ⟨.hbm, 51, rfl⟩
abbrev main_while0b_v84 : Ref sig .tc := ⟨.hbm, 52, rfl⟩
abbrev main_while0b_cst_22 : Ref sig .tc := ⟨.hbm, 53, rfl⟩
abbrev main_while0b_v85 : Ref sig .tc := ⟨.hbm, 54, rfl⟩
abbrev main_while0b_v86 : Ref sig .tc := ⟨.hbm, 55, rfl⟩
abbrev main_while0b_cst_23 : Ref sig .tc := ⟨.hbm, 56, rfl⟩
abbrev main_while0b_v87 : Ref sig .tc := ⟨.hbm, 57, rfl⟩
abbrev main_while0b_v88 : Ref sig .tc := ⟨.hbm, 58, rfl⟩
abbrev main_while0b_v89 : Ref sig .tc := ⟨.hbm, 59, rfl⟩
abbrev main_while0b_v90 : Ref sig .tc := ⟨.hbm, 60, rfl⟩
abbrev main_while0b_cst_24 : Ref sig .tc := ⟨.hbm, 61, rfl⟩
abbrev main_while0b_v91 : Ref sig .tc := ⟨.hbm, 62, rfl⟩
abbrev main_while0b_v92 : Ref sig .tc := ⟨.hbm, 63, rfl⟩
abbrev main_while0b_cst_25 : Ref sig .tc := ⟨.hbm, 64, rfl⟩
abbrev main_while0b_v93 : Ref sig .tc := ⟨.hbm, 65, rfl⟩
abbrev main_while0b_v94 : Ref sig .tc := ⟨.hbm, 66, rfl⟩
abbrev main_while0b_v95 : Ref sig .tc := ⟨.hbm, 67, rfl⟩
abbrev main_while0b_v96 : Ref sig .tc := ⟨.hbm, 68, rfl⟩
abbrev main_while0b_v97 : Ref sig .tc := ⟨.hbm, 69, rfl⟩
abbrev main_while0b_cst_26 : Ref sig .tc := ⟨.hbm, 70, rfl⟩
abbrev main_while0b_v98 : Ref sig .tc := ⟨.hbm, 71, rfl⟩
abbrev main_while0b_v99 : Ref sig .tc := ⟨.hbm, 72, rfl⟩
abbrev main_while0b_cst_27 : Ref sig .tc := ⟨.hbm, 73, rfl⟩
abbrev main_while0b_v100 : Ref sig .tc := ⟨.hbm, 74, rfl⟩
abbrev main_while0b_v101 : Ref sig .tc := ⟨.hbm, 75, rfl⟩
abbrev main_while0b_v102 : Ref sig .tc := ⟨.hbm, 76, rfl⟩
abbrev main_while0b_v103 : Ref sig .tc := ⟨.hbm, 77, rfl⟩
abbrev main_while0b_v104 : Ref sig .tc := ⟨.hbm, 78, rfl⟩
abbrev main_while0b_v105 : Ref sig .tc := ⟨.hbm, 79, rfl⟩
abbrev main_while0b_v106 : Ref sig .tc := ⟨.hbm, 80, rfl⟩
abbrev main_while0b_call1_v0 : Ref sig .tc := ⟨.hbm, 81, rfl⟩
abbrev main_while0b_call1_c : Ref sig .tc := ⟨.hbm, 82, rfl⟩
abbrev main_while0b_call1_c_0 : Ref sig .tc := ⟨.hbm, 83, rfl⟩
abbrev main_while0b_v107 : Ref sig .tc := ⟨.hbm, 84, rfl⟩
abbrev main_while0b_c_28 : Ref sig .tc := ⟨.hbm, 85, rfl⟩
abbrev main_while0b_v108 : Ref sig .tc := ⟨.hbm, 86, rfl⟩
abbrev main_v6 : Ref sig .tc := ⟨.hbm, 87, rfl⟩
abbrev main_v7 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_v12 : Ref sig .tc := ⟨.hbm, 93, rfl⟩
abbrev main_cst_2 : Ref sig .tc := ⟨.hbm, 94, rfl⟩
abbrev main_v13 : Ref sig .tc := ⟨.hbm, 95, rfl⟩
abbrev main_v14 : Ref sig .tc := ⟨.hbm, 96, rfl⟩
abbrev main_cst_3 : Ref sig .tc := ⟨.hbm, 97, rfl⟩
abbrev main_call2_v0 : Ref sig .tc := ⟨.hbm, 98, rfl⟩
abbrev main_call2_v1 : Ref sig .tc := ⟨.hbm, 99, rfl⟩
abbrev main_v15 : Ref sig .tc := ⟨.hbm, 100, rfl⟩
abbrev main_cst_4 : Ref sig .tc := ⟨.hbm, 101, rfl⟩
abbrev main_v16 : Ref sig .tc := ⟨.hbm, 102, rfl⟩
abbrev main_cst_5 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_cst_6 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_cst_7 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_call3_cst : Ref sig .tc := ⟨.hbm, 125, rfl⟩
abbrev main_call3_v0 : Ref sig .tc := ⟨.hbm, 126, rfl⟩
abbrev main_v36 : Ref sig .tc := ⟨.hbm, 127, rfl⟩
abbrev main_cst_8 : Ref sig .tc := ⟨.hbm, 128, rfl⟩
abbrev main_v37 : Ref sig .tc := ⟨.hbm, 129, rfl⟩
abbrev main_cst_9 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_cst_10 : Ref sig .tc := ⟨.hbm, 140, rfl⟩
abbrev main_v47 : Ref sig .tc := ⟨.hbm, 141, rfl⟩
abbrev main_cst_11 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_cst_12 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_cst_13 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩

abbrev nD : Nat := 1
abbrev τ : Topo := Topo.v7x

variable {F : FTy → Type} [FloatOps F]

abbrev main_while0_count : Scf.Loop 32 := ⟨0#32, 512#32, 1#32⟩
-- ==== Proof.Step.lean ====
/-
  The recurrence kernel's body written by its phases: clear the state, start one block's 32 row copies, wait for the 32 copies of the
  present block, the block's input product, 32 steps of the cell, and the last point's classifier layer. `body_eq` says the printed body
  is these phases one after another.
-/
module

public import proofs.«01_k».proof.Proof.Gen.KernelIdeal.Skeleton
public import Idealize.ShloMosaic.Lib.Tactic

@[expose] public section

set_option maxRecDepth 65536

noncomputable section

namespace Cert.KernelIdeal

open Idealize.ShloMosaic Idealize.SL.Sem
open Cert.KernelIdeal.Gen

variable {F : FTy → Type} [FloatOps F]

/-- Programs of the recurrence kernel's core. -/
abbrev P (α : Type) := Prog (TpuEff nD τ sig (Elt F) Λ₀ .tc) α

abbrev rHH : Rect S128x128 := Rect.unit (s := S128x128) ![0, 0] S128x128.size inb_S128x128_S128x128_0_0
abbrev rH1 : Rect S128x1 := Rect.unit (s := S128x1) ![0, 0] S128x1.size inb_S128x1_S128x1_0_0
abbrev r1H : Rect S1x128 := Rect.unit (s := S1x128) ![0, 0] S1x128.size inb_S1x128_S1x128_0_0
abbrev rHG : Rect S128x512 := Rect.unit (s := S128x512) ![0, 0] S128x512.size inb_S128x512_S128x512_0_0
abbrev r1G : Rect S1x512 := Rect.unit (s := S1x512) ![0, 0] S1x512.size inb_S1x512_S1x512_0_0
abbrev rGX : Rect S4096x512 := Rect.unit (s := S4096x512) ![0, 0] S4096x512.size inb_S4096x512_S4096x512_0_0

/-- The first point's clearing of hidden state, cell state and the two attention sums. -/
def initS (arg11 arg12 : Memref sig .tc .vmem S128x128 .f32) (arg13 : Memref sig .tc .vmem S128x1 .f32)
    (arg14 : Memref sig .tc .vmem S128x128 .f32) : P (F := F) PUnit := do
  let _ : Vec F S128x128 .f32 ← Prog.lift (.load arg11 rHH.toLoadRect (View.loadsAt_vmem h_S128x128))
  Prog.lift (.store arg11 rHH (k0_pay3 (F := F)) Finset.univ (View.stores_vmem_bits_univ h_S128x128 rfl) (.inl rfl))
  let _ : Vec F S128x128 .f32 ← Prog.lift (.load arg12 rHH.toLoadRect (View.loadsAt_vmem h_S128x128))
  Prog.lift (.store arg12 rHH (k0_pay4 (F := F)) Finset.univ (View.stores_vmem_bits_univ h_S128x128 rfl) (.inl rfl))
  let _ : Vec F S128x1 .f32 ← Prog.lift (.load arg13 rH1.toLoadRect (View.loadsAt_vmem h_S128x1))
  Prog.lift (.store arg13 rH1 (k0_pay5 (F := F)) Finset.univ (View.stores_vmem_bits_univ h_S128x1 rfl) (.inl rfl))
  let _ : Vec F S128x128 .f32 ← Prog.lift (.load arg14 rHH.toLoadRect (View.loadsAt_vmem h_S128x128))
  Prog.lift (.store arg14 rHH (k0_pay6 (F := F)) Finset.univ (View.stores_vmem_bits_univ h_S128x128 rfl) (.inl rfl))

/-- One time step of the array the copies read, as a matrix. -/
abbrev srcM (arg1 : Memref sig .tc .hbm S128x512x128 .f32) (o3 : Fin 3 → Nat) (h3 : ∀ a, o3 a + S128x1x128.size a ≤ S128x512x128.size a) :
    Memref sig .tc .hbm S128x128 .f32 :=
  (arg1.slice (Rect.unit (s := S128x512x128) o3 S128x1x128.size h3) (fun _ => rfl)).squeeze S128x128 squeezes_S128x1x128_S128x128

/-- One time step's place in the double buffer. -/
abbrev dstM (arg9 : Memref sig .tc .vmem S2x32x128x128 .f32) (o4 : Fin 4 → Nat)
    (h4 : ∀ a, o4 a + S1x1x128x128.size a ≤ S2x32x128x128.size a) : Memref sig .tc .vmem S128x128 .f32 :=
  (arg9.slice (Rect.unit (s := S2x32x128x128) o4 S1x1x128x128.size h4) (fun _ => rfl)).squeeze S128x128 squeezes_S1x1x128x128_S128x128

/-- A slot's semaphore. -/
abbrev semM (arg15 : DmaSems sig S2) (o1 : Fin 1 → Nat) (h1 : ∀ a, o1 a + S1.size a ≤ S2.size a) : DmaSems sig S_ :=
  (arg15.slice (Rect.unit (s := S2) o1 S1.size h1)).squeeze S_ squeezes_S1_S_

/-- Start one time step's copy. -/
def startS (arg1 : Memref sig .tc .hbm S128x512x128 .f32) (arg9 : Memref sig .tc .vmem S2x32x128x128 .f32) (arg15 : DmaSems sig S2)
    (o1 : Fin 1 → Nat) (h1 : ∀ a, o1 a + S1.size a ≤ S2.size a)
    (o4 : Fin 4 → Nat) (h4 : ∀ a, o4 a + S1x1x128x128.size a ≤ S2x32x128x128.size a)
    (o3 : Fin 3 → Nat) (h3 : ∀ a, o3 a + S128x1x128.size a ≤ S128x512x128.size a) : P (F := F) PUnit :=
  Prog.lift (.enqueueDma (srcM arg1 o3 h3) (.here (dstM arg9 o4 h4)) (.dma (semM arg15 o1 h1).sem)
    ((View.wordExact_bits rfl).reshape _ _) ((View.wordExact_bits rfl).reshape _ _) ⟨Or.inl rfl, trivial⟩)

/-- Wait for one time step's copy. -/
def waitS (arg1 : Memref sig .tc .hbm S128x512x128 .f32) (arg9 : Memref sig .tc .vmem S2x32x128x128 .f32) (arg15 : DmaSems sig S2)
    (o1 : Fin 1 → Nat) (h1 : ∀ a, o1 a + S1.size a ≤ S2.size a)
    (o4 : Fin 4 → Nat) (h4 : ∀ a, o4 a + S1x1x128x128.size a ≤ S2x32x128x128.size a)
    (o3 : Fin 3 → Nat) (h3 : ∀ a, o3 a + S128x1x128.size a ≤ S128x512x128.size a) : P (F := F) PUnit :=
  Prog.lift (.waitDma2 (semM arg15 o1 h1).sem (srcM arg1 o3 h3) (dstM arg9 o4 h4)
    ((View.wordExact_bits rfl).reshape _ _) ((View.wordExact_bits rfl).reshape _ _))

/-- The first `n` programs of a family of 32, one after another. -/
def runTo (f : Fin 32 → P (F := F) PUnit) : (n : Nat) → n ≤ 32 → P (F := F) PUnit
  | 0, _ => pure ⟨⟩
  | n + 1, h => do
    runTo f n (Nat.le_of_succ_le h)
    f ⟨n, h⟩

/-- The block's input product: the slot's 32 time steps times the input weights, plus the bias. -/
def gxS (i : grid0.Coords) (arg2 : Memref sig .tc .vmem S128x512 .f32) (arg4 : Memref sig .tc .vmem S1x512 .f32)
    (arg9 : Memref sig .tc .vmem S2x32x128x128 .f32) (arg10 : Memref sig .tc .vmem S4096x512 .f32) : P (F := F) PUnit := do
  let x : Vec F S1x32x128x128 .f32 ← Prog.lift (.load arg9 (Rect.unit (s := S2x32x128x128) (k0_off68 i) S1x32x128x128.size (k0_off68_inb i)).toLoadRect (View.loadsAt_vmem h_S1x32x128x128))
  let w : Vec F S128x512 .f32 ← Prog.lift (.load arg2 rHG.toLoadRect (View.loadsAt_vmem h_S128x512))
  let b : Vec F S1x512 .f32 ← Prog.lift (.load arg4 r1G.toLoadRect (View.loadsAt_vmem h_S1x512))
  let _ : Vec F S4096x512 .f32 ← Prog.lift (.load arg10 rGX.toLoadRect (View.loadsAt_vmem h_S4096x512))
  Prog.lift (.store arg10 rGX (k0_pay7 x w b) Finset.univ (View.stores_vmem_bits_univ h_S4096x512 rfl) (.inl rfl))

/-- One step of the cell: the gates from the block's input product and the hidden state, the new cell and hidden state, and the two
    attention sums. -/
def stepS (k : Fin 32) (arg3 : Memref sig .tc .vmem S128x512 .f32) (arg5 : Memref sig .tc .vmem S128x1 .f32)
    (arg10 : Memref sig .tc .vmem S4096x512 .f32) (arg11 arg12 : Memref sig .tc .vmem S128x128 .f32)
    (arg13 : Memref sig .tc .vmem S128x1 .f32) (arg14 : Memref sig .tc .vmem S128x128 .f32) : P (F := F) PUnit := do
  let h : Vec F S128x128 .f32 ← Prog.lift (.load arg11 rHH.toLoadRect (View.loadsAt_vmem h_S128x128))
  let c : Vec F S128x128 .f32 ← Prog.lift (.load arg12 rHH.toLoadRect (View.loadsAt_vmem h_S128x128))
  let g : Vec F S128x512 .f32 ← Prog.lift (.load arg10 (Rect.unit (s := S4096x512) (k0_off69 (BitVec.ofNat 32 k.val)) S128x512.size (k0_off69_inb k)).toLoadRect (View.loadsAt_vmem h_S128x512))
  let w : Vec F S128x512 .f32 ← Prog.lift (.load arg3 rHG.toLoadRect (View.loadsAt_vmem h_S128x512))
  let _ : Vec F S128x128 .f32 ← Prog.lift (.load arg12 rHH.toLoadRect (View.loadsAt_vmem h_S128x128))
  Prog.lift (.store arg12 rHH (k0_pay11 h c g w) Finset.univ (View.stores_vmem_bits_univ h_S128x128 rfl) (.inl rfl))
  let _ : Vec F S128x128 .f32 ← Prog.lift (.load arg11 rHH.toLoadRect (View.loadsAt_vmem h_S128x128))
  Prog.lift (.store arg11 rHH (k0_pay12 (k0_pay10 h c g w)) Finset.univ (View.stores_vmem_bits_univ h_S128x128 rfl) (.inl rfl))
  let aw : Vec F S128x1 .f32 ← Prog.lift (.load arg5 rH1.toLoadRect (View.loadsAt_vmem h_S128x1))
  let z : Vec F S128x1 .f32 ← Prog.lift (.load arg13 rH1.toLoadRect (View.loadsAt_vmem h_S128x1))
  let _ : Vec F S128x1 .f32 ← Prog.lift (.load arg13 rH1.toLoadRect (View.loadsAt_vmem h_S128x1))
  Prog.lift (.store arg13 rH1 (k0_pay14 (k0_pay10 h c g w) aw z) Finset.univ (View.stores_vmem_bits_univ h_S128x1 rfl) (.inl rfl))
  let a : Vec F S128x128 .f32 ← Prog.lift (.load arg14 rHH.toLoadRect (View.loadsAt_vmem h_S128x128))
  let _ : Vec F S128x128 .f32 ← Prog.lift (.load arg14 rHH.toLoadRect (View.loadsAt_vmem h_S128x128))
  Prog.lift (.store arg14 rHH (k0_pay15 (k0_pay10 h c g w) aw a) Finset.univ (View.stores_vmem_bits_univ h_S128x128 rfl) (.inl rfl))

/-- The last point's classifier layer. -/
def finS (arg6 : Memref sig .tc .vmem S128x128 .f32) (arg7 : Memref sig .tc .vmem S1x128 .f32) (arg8 : Memref sig .tc .vmem S128x128 .f32)
    (arg13 : Memref sig .tc .vmem S128x1 .f32) (arg14 : Memref sig .tc .vmem S128x128 .f32) : P (F := F) PUnit := do
  let a : Vec F S128x128 .f32 ← Prog.lift (.load arg14 rHH.toLoadRect (View.loadsAt_vmem h_S128x128))
  let z : Vec F S128x1 .f32 ← Prog.lift (.load arg13 rH1.toLoadRect (View.loadsAt_vmem h_S128x1))
  let w : Vec F S128x128 .f32 ← Prog.lift (.load arg6 rHH.toLoadRect (View.loadsAt_vmem h_S128x128))
  let b : Vec F S1x128 .f32 ← Prog.lift (.load arg7 r1H.toLoadRect (View.loadsAt_vmem h_S1x128))
  let _ : Vec F S128x128 .f32 ← Prog.lift (.load arg8 rHH.toLoadRect (View.loadsAt_vmem h_S128x128))
  Prog.lift (.store arg8 rHH (k0_pay2 a z w b) Finset.univ (View.stores_vmem_bits_univ h_S128x128 rfl) (.inl rfl))

/-- The place of time step `t` of the block the next point reads: the other slot of the buffer. -/
def nextOff (i : grid0.Coords) (t : BitVec 32) : Fin 4 → Nat :=
  let a : BitVec 32 := Scalar.addi (BitVec.ofNat 32 (i 0).val) 1#32
  let m : BitVec 32 := Scalar.select (Scalar.cmpi .eq 2#32 0#32) 1#32 2#32
  let r : BitVec 32 := Scalar.remsi a m
  let s : BitVec 32 := Scalar.select (Scalar.andi (Scalar.xori (Scalar.cmpi .slt r 0#32) (Scalar.cmpi .slt m 0#32)) (Scalar.cmpi .ne r 0#32))
    (Scalar.addi r m) r
  ![s.toNat, t.toNat, 0, 0]

/-- The place of time step `t` of the present point's block. -/
def hereOff (i : grid0.Coords) (t : BitVec 32) : Fin 4 → Nat :=
  let a : BitVec 32 := BitVec.ofNat 32 (i 0).val
  let m : BitVec 32 := Scalar.select (Scalar.cmpi .eq 2#32 0#32) 1#32 2#32
  let r : BitVec 32 := Scalar.remsi a m
  let s : BitVec 32 := Scalar.select (Scalar.andi (Scalar.xori (Scalar.cmpi .slt r 0#32) (Scalar.cmpi .slt m 0#32)) (Scalar.cmpi .ne r 0#32))
    (Scalar.addi r m) r
  ![s.toNat, t.toNat, 0, 0]

theorem nextOff_eq (i : grid0.Coords) (k : Fin 32) : nextOff i (BitVec.ofNat 32 k.val) = ![((i 0).val + 1) % 2, k.val, 0, 0] := by
  unfold nextOff
  generalize i 0 = n
  revert n k; decide

theorem hereOff_eq (i : grid0.Coords) (k : Fin 32) : hereOff i (BitVec.ofNat 32 k.val) = ![(i 0).val % 2, k.val, 0, 0] := by
  unfold hereOff
  generalize i 0 = n
  revert n k; decide

theorem slotK_inb : ∀ (s : Fin 2) (k : Fin 32), ∀ a, (![s.val, k.val, 0, 0] : Fin 4 → Nat) a + S1x1x128x128.size a ≤ S2x32x128x128.size a := by decide

theorem nextOff_inb (i : grid0.Coords) (k : Fin 32) : ∀ a, nextOff i (BitVec.ofNat 32 k.val) a + S1x1x128x128.size a ≤ S2x32x128x128.size a := by
  rw [nextOff_eq]; exact slotK_inb ⟨_, Nat.mod_lt _ (by decide)⟩ k

theorem hereOff_inb (i : grid0.Coords) (k : Fin 32) : ∀ a, hereOff i (BitVec.ofNat 32 k.val) a + S1x1x128x128.size a ≤ S2x32x128x128.size a := by
  rw [hereOff_eq]; exact slotK_inb ⟨_, Nat.mod_lt _ (by decide)⟩ k

theorem firstOff4_inb (k : Fin 32) : ∀ a, (![0, k.val, 0, 0] : Fin 4 → Nat) a + S1x1x128x128.size a ≤ S2x32x128x128.size a := by
  revert k; decide
theorem firstOff3_inb (k : Fin 32) : ∀ a, (![0, k.val, 0] : Fin 3 → Nat) a + S128x1x128.size a ≤ S128x512x128.size a := by
  revert k; decide

/-- The first point's condition, as the kernel computes it. -/
def isFirst (i : grid0.Coords) : BitVec 1 :=
  Scalar.cmpi .ne (Scalar.extui (Scalar.cmpi .eq (BitVec.ofNat 32 (i 0).val) 0#32) : BitVec 32) 0#32

/-- The body, by its phases. -/
def bodyS (i : grid0.Coords) (arg1 : Memref sig .tc .hbm S128x512x128 .f32) (arg2 arg3 : Memref sig .tc .vmem S128x512 .f32)
    (arg4 : Memref sig .tc .vmem S1x512 .f32) (arg5 : Memref sig .tc .vmem S128x1 .f32) (arg6 : Memref sig .tc .vmem S128x128 .f32)
    (arg7 : Memref sig .tc .vmem S1x128 .f32) (arg8 : Memref sig .tc .vmem S128x128 .f32) (arg9 : Memref sig .tc .vmem S2x32x128x128 .f32)
    (arg10 : Memref sig .tc .vmem S4096x512 .f32) (arg11 arg12 : Memref sig .tc .vmem S128x128 .f32)
    (arg13 : Memref sig .tc .vmem S128x1 .f32) (arg14 : Memref sig .tc .vmem S128x128 .f32) (arg15 : DmaSems sig S2) : P (F := F) PUnit := do
  if _h : isFirst i = 1#1 then do
    initS arg11 arg12 arg13 arg14
    runTo (fun k => startS arg1 arg9 arg15 ![0] inb_S2_S1_0 ![0, k.val, 0, 0] (firstOff4_inb k) ![0, k.val, 0] (firstOff3_inb k)) 32 le_rfl
  else pure ⟨⟩
  if h : k0_cond2 i = 1#1 then
    runTo (fun k => startS arg1 arg9 arg15 (k0_off1 i) (k0_off1_inb i h) (nextOff i (BitVec.ofNat 32 k.val)) (nextOff_inb i k)
      (k0_off3 i (BitVec.ofNat 32 k.val)) (k0_off3_inb i h k)) 32 le_rfl
  else pure ⟨⟩
  runTo (fun k => waitS arg1 arg9 arg15 (k0_off35 i) (k0_off35_inb i) (hereOff i (BitVec.ofNat 32 k.val)) (hereOff_inb i k)
    ![0, k.val, 0] (firstOff3_inb k)) 32 le_rfl
  gxS i arg2 arg4 arg9 arg10
  runTo (fun k => stepS k arg3 arg5 arg10 arg11 arg12 arg13 arg14) 32 le_rfl
  if _h : k0_cond3 i = 1#1 then finS arg6 arg7 arg8 arg13 arg14
  else pure ⟨⟩
  pure ⟨⟩

theorem body_eq (i : grid0.Coords) (arg1 : Memref sig .tc .hbm S128x512x128 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S2x32x128x128 .f32) (harg9 : arg9.IsWhole) (arg10 : Memref sig .tc .vmem S4096x512 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x1 .f32) (harg13 : arg13.IsWhole) (arg14 : Memref sig .tc .vmem S128x128 .f32) (harg14 : arg14.IsWhole) (arg15 : DmaSems sig S2) :
    cc0__lstm_body (F := F) i arg1 harg1 arg2 harg2 arg3 harg3 arg4 harg4 arg5 harg5 arg6 harg6 arg7 harg7 arg8 harg8 arg9 harg9 arg10 harg10 arg11 harg11 arg12 harg12 arg13 harg13 arg14 harg14 arg15
      = bodyS i arg1 arg2 arg3 arg4 arg5 arg6 arg7 arg8 arg9 arg10 arg11 arg12 arg13 arg14 arg15 := by
  rw [cc0__lstm_body_eq_skeleton]; unfold cc0__lstm_body_skel
  rw [k0_part79_eq_skeleton]; unfold k0_part79_skel
  rw [k0_part18_eq_skeleton]; unfold k0_part18_skel
  unfold bodyS
  by_cases h1 : isFirst i = 1#1 <;> by_cases h2 : k0_cond2 i = 1#1 <;> unfold isFirst at h1 ⊢ <;>
    simp only [h1, h2, dite_true, dite_false] <;> sl_kernel_rfl

theorem runTo_zero (f : Fin 32 → P (F := F) PUnit) (h : 0 ≤ 32) : runTo f 0 h = pure ⟨⟩ := rfl
theorem runTo_succ (f : Fin 32 → P (F := F) PUnit) (n : Nat) (h : n + 1 ≤ 32) :
    runTo f (n + 1) h = (runTo f n (Nat.le_of_succ_le h) >>= fun _ => f ⟨n, h⟩) := rfl
attribute [irreducible] runTo

end Cert.KernelIdeal
-- ==== Proof.Offsets.lean ====
/-
  The recurrence kernel's offsets and conditions in closed form: which slot of the double buffer and which rows of the array a point's
  copies name, and at which points its three conditions hold; and what one time step's copy leaves in its place.
-/
module

public import proofs.«01_k».proof.Proof.Step
public import Idealize.ShloMosaic.Lib.ValueLayout

@[expose] public section

noncomputable section

namespace Cert.KernelIdeal

open Idealize.ShloMosaic Idealize.SL.Sem Idealize.ShloMosaic.ValueIdx
open Cert.KernelIdeal.Gen

variable {F : FTy → Type} [FloatOps F]

/-- The offsets of one time step's place in a slot of the double buffer. -/
abbrev slotOff (s : Fin 2) (k : Fin 32) : Fin 4 → Nat := ![s.val, k.val, 0, 0]
theorem slotOff_inb : ∀ (s : Fin 2) (k : Fin 32), ∀ a, slotOff s k a + S1x1x128x128.size a ≤ S2x32x128x128.size a := by decide
/-- The offsets of one time step of a block in the array. -/
abbrev rowOff (p : Fin 16) (k : Fin 32) : Fin 3 → Nat := ![0, 32 * p.val + k.val, 0]
theorem rowOff_inb (p : Fin 16) (k : Fin 32) : ∀ a, rowOff p k a + S128x1x128.size a ≤ S128x512x128.size a := by
  intro a; have := p.isLt; have := k.isLt
  fin_cases a <;> simp [rowOff, S128x1x128, S128x512x128] <;> omega
theorem semOff_inb : ∀ (s : Fin 2), ∀ a, (![s.val] : Fin 1 → Nat) a + S1.size a ≤ S2.size a := by decide

/-- The slot of a block. -/
abbrev slotOf (p : Fin 16) : Fin 2 := ⟨p.val % 2, Nat.mod_lt _ (by decide)⟩

variable (i : grid0.Coords) (p : Fin 16)

theorem cond2_of (h : (i 0).val = p.val) : k0_cond2 i = 1#1 ↔ p.val + 1 < 16 := by
  unfold k0_cond2; rw [h]; clear h; revert p; decide
theorem cond3_of (h : (i 0).val = p.val) : k0_cond3 i = 1#1 ↔ p.val = 15 := by
  unfold k0_cond3; rw [h]; clear h; revert p; decide
theorem isFirst_of (h : (i 0).val = p.val) : isFirst i = 1#1 ↔ p.val = 0 := by
  unfold isFirst; rw [h]; clear h; revert p; decide
theorem off35_of (h : (i 0).val = p.val) : k0_off35 i = ![(slotOf p).val] := by
  unfold k0_off35; rw [h]; clear h; revert p; decide
theorem off1_of (h : (i 0).val = p.val) : k0_off1 i = ![(p.val + 1) % 2] := by
  unfold k0_off1; rw [h]; clear h; revert p; decide
theorem off68_of (h : (i 0).val = p.val) : k0_off68 i = ![(slotOf p).val, 0, 0, 0] := by
  unfold k0_off68; rw [h]; clear h; revert p; decide
theorem off3_of (h : (i 0).val = p.val) (k : Fin 32) : k0_off3 i (BitVec.ofNat 32 k.val) = ![0, 32 * (p.val + 1) + k.val, 0] := by
  unfold k0_off3; rw [h]; clear h; revert p k; decide
theorem here_of (h : (i 0).val = p.val) (k : Fin 32) : hereOff i (BitVec.ofNat 32 k.val) = slotOff (slotOf p) k := by
  rw [hereOff_eq, h]
theorem next_of (h : (i 0).val = p.val) (k : Fin 32) : nextOff i (BitVec.ofNat 32 k.val) = ![(p.val + 1) % 2, k.val, 0, 0] := by
  rw [nextOff_eq, h]
theorem off69_of (k : Fin 32) : k0_off69 (BitVec.ofNat 32 k.val) = ![128 * k.val, 0] := by
  revert k; decide

/-- One time step of a block in the array, and its place in the double buffer. -/
abbrev srcAt (p : Fin 16) (k : Fin 32) := srcM (Memref.whole main_call0_v0) (rowOff p k) (rowOff_inb p k)
abbrev dstAt (s : Fin 2) (k : Fin 32) := dstM (Memref.whole cc0_scratch0) (slotOff s k) (slotOff_inb s k)
/-- A slot's semaphore. -/
abbrev semAt (s : Fin 2) : DmaSem sig := (semM cc0_scratch6 ![s.val] (semOff_inb s)).sem

/-- A slot of the double buffer holding a block: entry `(s, k, n, f)` is the array's entry at row `n`, time step `32 p + k`, column `f`. -/
def landed (X : S128x512x128.Idx → Elt F .f32) (p : Fin 16) : S2x32x128x128.Idx → Elt F .f32 := fun j =>
  X (ix3 (j 2 : Fin 128) (⟨32 * p.val + (j 1).val, by have h1 := p.isLt; have h2 : (j 1).val < 32 := (j 1).isLt; omega⟩ : Fin 512) (j 3 : Fin 128))

theorem srcAt_emb (p : Fin 16) (k : Fin 32) (x y : Fin 128) :
    (srcAt p k).view.emb (ix2 x y) = (ix3 x (⟨32 * p.val + k.val, by have := p.isLt; have := k.isLt; omega⟩ : Fin 512) y : S128x512x128.Idx) := by
  show (Rect.unit (s := S128x512x128) (rowOff p k) S128x1x128.size (rowOff_inb p k)).emb (Shape.reshapeEquiv _ (ix2 x y)) = _
  rw [show Shape.reshapeEquiv (s := S128x1x128) (s' := S128x128) (by decide) (ix2 x y) = (ix3 x (⟨0, Nat.one_pos⟩ : Fin 1) y : S128x1x128.Idx) from
    Shape.reshapeEquiv_eq_of_rowMajor _ (by
      rw [Shape.rowMajor_val_three, Shape.rowMajor_val_two]
      show (x.val * 1 + 0) * 128 + y.val = x.val * 128 + y.val
      omega)]
  funext a; apply Fin.ext
  fin_cases a
  · show 0 + 1 * x.val = x.val; omega
  · show (32 * p.val + k.val) + 1 * 0 = 32 * p.val + k.val; omega
  · show 0 + 1 * y.val = y.val; omega

theorem dstAt_emb (s : Fin 2) (k : Fin 32) (x y : Fin 128) :
    (dstAt s k).view.emb (ix2 x y) = (ix4 s k x y : S2x32x128x128.Idx) := by
  show (Rect.unit (s := S2x32x128x128) (slotOff s k) S1x1x128x128.size (slotOff_inb s k)).emb (Shape.reshapeEquiv _ (ix2 x y)) = _
  rw [show Shape.reshapeEquiv (s := S1x1x128x128) (s' := S128x128) (by decide) (ix2 x y)
      = (ix4 (⟨0, Nat.one_pos⟩ : Fin 1) (⟨0, Nat.one_pos⟩ : Fin 1) x y : S1x1x128x128.Idx) from reshapeEquiv_ix2_11ab _ x y]
  funext a; apply Fin.ext
  fin_cases a
  · show s.val + 1 * 0 = s.val; omega
  · show k.val + 1 * 0 = k.val; omega
  · show 0 + 1 * x.val = x.val; omega
  · show 0 + 1 * y.val = y.val; omega

/-- One landed copy agrees with its block on its place. -/
theorem landed_write (X : S128x512x128.Idx → Elt F .f32) (s : Fin 2) (p : Fin 16) (k : Fin 32) (f : S2x32x128x128.Idx → Elt F .f32)
    (i : S2x32x128x128.Idx) (hi : i ∈ (dstAt s k).view.set) :
    (dstAt s k).view.write (Elt F) f ((srcAt p k).view.read (Elt F) X) Finset.univ i = landed X p i := by
  obtain ⟨x, -, rfl⟩ := Finset.mem_map.mp hi
  refine ((dstAt s k).view.write_emb_of_mem f _ (Finset.mem_univ x)).trans ?_
  obtain ⟨a, b, rfl⟩ : ∃ a b : Fin 128, x = ix2 a b := ⟨x 0, x 1, eq_ix2 x⟩
  rw [View.read_apply, srcAt_emb, dstAt_emb]
  rfl

end Cert.KernelIdeal
-- ==== Proof.Slots.lean ====
/-
  One slot of the double buffer: its semaphore, its 32 places, and a share of the array the copies read. Starting a block's 32 copies
  puts the slot in flight; waiting for the 32 gives the slot back holding the block.
-/
module

public import proofs.«01_k».proof.Proof.Offsets
public import proofs.«01_k».proof.Proof.Gen.KernelIdeal.Launch
public import proofs.«01_k».proof.Proof.Gen.KernelIdeal.Points
public import Idealize.ShloMosaic.Lib.Batch
public import Idealize.ShloMosaic.Lib.Ring
public import Idealize.ShloMosaic.Lib.Pipeline.FrameBody

@[expose] public section

set_option maxRecDepth 65536

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ (Pipeline.UD sig nD τ) ℕ
local notation "EC" => countersEmb (U := Pipeline.UD sig nD τ)

/-- The array the copies read. -/
abbrev XBuf (F : FTy → Type) := S128x512x128.Idx → Elt F .f32

/-- What one copy credits its semaphore. -/
def credit : ℕ := (dstAt 0 0).view.dmaCredit
theorem credit_eq (s : Fin 2) (k : Fin 32) : (dstAt s k).view.dmaCredit = credit := rfl
theorem credit_pos : 0 < credit := View.dmaCredit_pos _ (by decide)
attribute [local irreducible] credit

variable (c : Dev nD) (X : XBuf F) (s : Fin 2) (p : Fin 16) (sh : PosShare TreeShare)

/-- What one copy delivers: its place holding the block's time step, and the array's rows back. -/
def deliv (k : Fin 32) : sProp 𝕄 :=
  iprop(((dstAt s k).view.loc (c : Thread nD τ) ↦[(dstAt s k).view.set]{fullShare} landed X p)
    ∗ ((srcAt p k).view.loc (c : Thread nD τ) ↦[(srcAt p k).view.set]{sh} X))
instance deliv_storable (k : Fin 32) : Storable (upEmb : UEmb _ 𝕄) (deliv (F := F) c X s p sh k) := by
  unfold deliv; infer_instance

/-- What one copy takes. -/
def takes (f : S2x32x128x128.Idx → Elt F .f32) (k : Fin 32) : sProp 𝕄 :=
  iprop(((dstAt s k).view.loc (c : Thread nD τ) ↦[(dstAt s k).view.set]{fullShare} f)
    ∗ ((srcAt p k).view.loc (c : Thread nD τ) ↦[(srcAt p k).view.set]{sh} X))

/-- Start one copy of a block. -/
abbrev startAt (k : Fin 32) : P (F := F) PUnit :=
  startS (Memref.whole main_call0_v0) (Memref.whole cc0_scratch0) cc0_scratch6 ![s.val] (semOff_inb s) (slotOff s k) (slotOff_inb s k)
    (rowOff p k) (rowOff_inb p k)
/-- Wait for one copy (the wait's source operand names the array's first rows). -/
abbrev waitAt (k : Fin 32) : P (F := F) PUnit :=
  waitS (Memref.whole main_call0_v0) (Memref.whole cc0_scratch0) cc0_scratch6 ![s.val] (semOff_inb s) (slotOff s k) (slotOff_inb s k)
    ![0, k.val, 0] (firstOff3_inb k)

abbrev WP (q : P (F := F) PUnit) (Q : PUnit → sProp 𝕄) : sProp 𝕄 := wp frame (wpE (defs₀ (F := F)) Variants.none (c : Thread nD τ) none) Set.univ q Q

theorem starts_to (f : S2x32x128x128.Idx → Elt F .f32) : ∀ (n : ℕ) (h : n ≤ 32),
    iprop(Batch EC (c : Thread nD τ) (.dma (semAt s)) () credit (deliv (F := F) c X s p sh) 0 0 ∗ bigSep (pending 0) (takes (F := F) c X s p sh f))
      ⊢ WP c (runTo (startAt s p) n h)
          (fun _ => iprop(Batch EC (c : Thread nD τ) (.dma (semAt s)) () credit (deliv (F := F) c X s p sh) n 0 ∗ bigSep (pending n) (takes (F := F) c X s p sh f)))
  | 0, h => by
    iintro H; unfold WP; rw [runTo_zero, wp_pure]; imodintro; iexact H
  | n + 1, h => by
    unfold WP
    rw [runTo_succ, wp_bind]
    refine (starts_to f n _).trans (wp_mono _ _ _ fun _ => ?_)
    rw [bigSep_pending_step _ n h]
    unfold takes startAt startS
    iintro ⟨HB, ⟨Hd, Hs⟩, Hr⟩
    iapply (wp_dmaBatch EC Variants.none (c : Thread nD τ) none () credit (show (dstAt s ⟨n, h⟩).view.amount (.dma (semAt s)) = credit from credit_eq s ⟨n, h⟩) (Finset.Subset.refl _) h (Nat.zero_le _)
      (D := deliv (F := F) c X s p sh) ?hD) $$ [Hs Hd HB]
    case hD =>
      unfold deliv
      refine sep_mono (Entails.of_eq (pointsTo_congr fun i hi => landed_write X s p ⟨n, h⟩ f i hi)) .rfl
    · isplitl [Hs]; · iexact Hs
      isplitl [Hd]; · iexact Hd
      iexact HB
    iintro HB
    rw [wp_ret]; imodintro
    isplitl [HB]; · iexact HB
    iexact Hr

theorem waits_to : ∀ (n : ℕ) (h : n < 32) (W : Waits sig Unit),
    iprop(Batch EC (c : Thread nD τ) (.dma (semAt s)) () credit (deliv (F := F) c X s p sh) 32 0 ∗ owes (c : Thread nD τ) 0 W)
      ⊢ WP c (runTo (waitAt s) n h.le)
          (fun _ => iprop(Batch EC (c : Thread nD τ) (.dma (semAt s)) () credit (deliv (F := F) c X s p sh) 32 (n * credit) ∗ ∃ W', owes (c : Thread nD τ) 0 W'))
  | 0, h, W => by
    unfold WP; rw [runTo_zero, wp_pure, Nat.zero_mul]
    iintro ⟨HB, HW⟩; imodintro
    isplitl [HB]; · iexact HB
    iexists _; iexact HW
  | n + 1, h, W => by
    unfold WP
    rw [runTo_succ, wp_bind]
    refine (waits_to n (Nat.lt_of_succ_lt h) W).trans (wp_mono _ _ _ fun _ => ?_)
    unfold waitAt waitS
    iintro ⟨HB, ⟨%W', HW⟩⟩
    iapply (wp_waitBatch EC Variants.none (c : Thread nD τ) none () (credit_eq s ⟨n, h.le⟩)
      (D := deliv (F := F) c X s p sh) (u := n * credit) (by have h1 := Nat.mul_lt_mul_of_pos_right h credit_pos; rw [Nat.succ_mul] at h1; omega)) $$ [HB HW]
    · isplitl [HB]; · iexact HB
      iexact HW
    iintro ⟨HB, HW⟩
    rw [wp_ret, Nat.succ_mul]; imodintro
    isplitl [HB]; · iexact HB
    iexists _; iexact HW

theorem wait_last (k : Fin 32) (u : ℕ) (hu : u + credit = credit * 32) (W : Waits sig Unit) :
    iprop(Batch EC (c : Thread nD τ) (.dma (semAt s)) () credit (deliv (F := F) c X s p sh) 32 u ∗ owes (c : Thread nD τ) 0 W)
      ⊢ WP c (waitAt s k)
          (fun _ => iprop(bigSep Finset.univ (deliv (F := F) c X s p sh) ∗ semVal ((c : Thread nD τ), .dma (semAt s)) 0 ∗ ∃ W', owes (c : Thread nD τ) 0 W')) := by
  unfold WP waitAt waitS
  iintro ⟨HB, HW⟩
  iapply (wp_waitBatchLast EC Variants.none (c : Thread nD τ) none () (credit_eq s k) credit_pos
    (D := deliv (F := F) c X s p sh) (u := u) hu) $$ [HB HW]
  · isplitl [HB]; · iexact HB
    iexact HW
  iintro ⟨HD, Hv, HW⟩
  rw [wp_ret]; imodintro
  isplitl [HD]; · iexact HD
  isplitl [Hv]; · iexact Hv
  iexists _; iexact HW

theorem waits_all (W : Waits sig Unit) :
    iprop(Batch EC (c : Thread nD τ) (.dma (semAt s)) () credit (deliv (F := F) c X s p sh) 32 0 ∗ owes (c : Thread nD τ) 0 W)
      ⊢ WP c (runTo (waitAt s) 32 le_rfl)
          (fun _ => iprop(bigSep Finset.univ (deliv (F := F) c X s p sh) ∗ semVal ((c : Thread nD τ), .dma (semAt s)) 0 ∗ ∃ W', owes (c : Thread nD τ) 0 W')) := by
  have h := waits_to c X s p sh 31 (by decide) W
  have hu : 31 * credit + credit = credit * 32 := by generalize credit = n; omega
  unfold WP at h ⊢
  rw [runTo_succ (waitAt s) 31, wp_bind]
  refine h.trans (wp_mono _ _ _ fun _ => ?_)
  iintro ⟨HB, ⟨%W', HW⟩⟩
  have h' := wait_last c X s p sh ⟨31, by decide⟩ (31 * credit) hu W'
  unfold WP at h'
  iapply h'
  isplitl [HB]; · iexact HB
  iexact HW

/-! ## The places of a slot, the rows of a block -/

open Idealize.ShloMosaic.ValueIdx

theorem mem_dstAt (s : Fin 2) (k : Fin 32) (i : S2x32x128x128.Idx) : i ∈ (dstAt s k).view.set ↔ i 0 = s ∧ i 1 = k := by
  constructor
  · intro hi
    obtain ⟨x, -, rfl⟩ := Finset.mem_map.mp hi
    obtain ⟨a, b, rfl⟩ : ∃ a b : Fin 128, x = ix2 a b := ⟨x 0, x 1, eq_ix2 x⟩
    rw [dstAt_emb]; exact ⟨rfl, rfl⟩
  · obtain ⟨s', k', a, b, rfl⟩ : ∃ (s' : Fin 2) (k' : Fin 32) (a b : Fin 128), i = ix4 s' k' a b := ⟨i 0, i 1, i 2, i 3, eq_ix4 i⟩
    rintro ⟨h0, h1⟩
    obtain rfl : s' = s := h0
    obtain rfl : k' = k := h1
    exact Finset.mem_map.mpr ⟨ix2 a b, Finset.mem_univ _, dstAt_emb s' k' a b⟩

theorem mem_srcAt (p : Fin 16) (k : Fin 32) (i : S128x512x128.Idx) : i ∈ (srcAt p k).view.set → (i 1).val = 32 * p.val + k.val := by
  intro hi
  obtain ⟨x, -, rfl⟩ := Finset.mem_map.mp hi
  obtain ⟨a, b, rfl⟩ : ∃ a b : Fin 128, x = ix2 a b := ⟨x 0, x 1, eq_ix2 x⟩
  rw [srcAt_emb]

theorem srcAt_of (p : Fin 16) (k : Fin 32) (i : S128x512x128.Idx) (h : (i 1).val = 32 * p.val + k.val) : i ∈ (srcAt p k).view.set := by
  obtain ⟨x, t, y, rfl⟩ : ∃ (x : Fin 128) (t : Fin 512) (y : Fin 128), i = ix3 x t y := ⟨i 0, i 1, i 2, eq_ix3 i⟩
  refine Finset.mem_map.mpr ⟨ix2 x y, Finset.mem_univ _, (srcAt_emb p k x y).trans ?_⟩
  exact congrArg (fun t => (ix3 x t y : S128x512x128.Idx)) (Fin.ext h.symm)

/-- The places of a slot. -/
def slotSet (s : Fin 2) : Finset S2x32x128x128.Idx := Finset.univ.filter fun i => (i 0).val = s.val
/-- The rows of a block. -/
def blkSet (p : Fin 16) : Finset S128x512x128.Idx := Finset.univ.filter fun i => (i 1).val / 32 = p.val

theorem mem_slotSet (s : Fin 2) (i : S2x32x128x128.Idx) : i ∈ slotSet s ↔ i 0 = s := by
  unfold slotSet; rw [Finset.mem_filter]; exact ⟨fun h => Fin.ext h.2, fun h => ⟨Finset.mem_univ _, congrArg Fin.val h⟩⟩
theorem mem_blkSet (p : Fin 16) (i : S128x512x128.Idx) : i ∈ blkSet p ↔ (i 1).val / 32 = p.val := by
  unfold blkSet; rw [Finset.mem_filter]; exact ⟨fun h => h.2, fun h => ⟨Finset.mem_univ _, h⟩⟩

theorem blk_inj {n p k k' : ℕ} (h : n = 32 * p + k) (h' : n = 32 * p + k') : k = k' := by omega
theorem srcAt_disjoint (p : Fin 16) (k k' : Fin 32) (h : k ≠ k') : Disjoint (srcAt p k).view.set (srcAt p k').view.set := by
  rw [Finset.disjoint_left]
  intro i hi hi'
  have h1 := mem_srcAt p k i hi
  have h2 := mem_srcAt p k' i hi'
  exact h (Fin.ext (blk_inj h1 h2))
theorem blk_div {n p k : ℕ} (h : n = 32 * p + k) (hk : k < 32) : n / 32 = p := by omega
theorem blk_mod {n p : ℕ} (h : n / 32 = p) : n = 32 * p + n % 32 := by omega

theorem srcAt_mod (p : Fin 16) (i : S128x512x128.Idx) (h : (i 1).val / 32 = p.val) : ∃ k : Fin 32, i ∈ (srcAt p k).view.set := by
  have hk : (i 1).val % 32 < 32 := Nat.mod_lt _ (by decide)
  refine ⟨⟨_, hk⟩, srcAt_of p ⟨_, hk⟩ i ?_⟩
  have h' := blk_mod h
  exact h'

theorem slot_places (s : Fin 2) (f : S2x32x128x128.Idx → Elt F .f32) :
    (((c : Thread nD τ).loc cc0_scratch0 ↦[slotSet s]{fullShare} f) : sProp 𝕄)
      = bigSep Finset.univ fun k => ((dstAt s k).view.loc (c : Thread nD τ) ↦[(dstAt s k).view.set]{fullShare} f) := by
  refine Ring.pointsTo_sub_blocks (ℓ := (c : Thread nD τ).loc cc0_scratch0) (fun k : Fin 32 => (dstAt s k).view.set) ?_ (slotSet s) ?_ f
  · intro k k' h
    exact Finset.disjoint_left.mpr fun i hi hi' => h (((mem_dstAt s k i).mp hi).2.symm.trans ((mem_dstAt s k' i).mp hi').2)
  · refine Finset.ext fun i => Iff.trans Finset.mem_biUnion (Iff.trans ?_ (mem_slotSet s i).symm)
    exact ⟨fun ⟨k, _, h⟩ => ((mem_dstAt s k i).mp h).1, fun h => ⟨i 1, Finset.mem_univ _, (mem_dstAt s _ i).mpr ⟨h, rfl⟩⟩⟩

theorem blk_rows :
    (((c : Thread nD τ).loc main_call0_v0 ↦[blkSet p]{sh} X) : sProp 𝕄)
      = bigSep Finset.univ fun k => ((srcAt p k).view.loc (c : Thread nD τ) ↦[(srcAt p k).view.set]{sh} X) := by
  refine Ring.pointsTo_sub_blocks (ℓ := (c : Thread nD τ).loc main_call0_v0) (fun k : Fin 32 => (srcAt p k).view.set) ?_ (blkSet p) ?_ X
  · intro k k' h
    exact srcAt_disjoint p k k' h
  · refine Finset.ext fun i => Iff.trans Finset.mem_biUnion (Iff.trans ?_ (mem_blkSet p i).symm)
    constructor
    · rintro ⟨k, _, h⟩; exact blk_div (mem_srcAt p k i h) k.isLt
    · intro h
      obtain ⟨k, hk⟩ := srcAt_mod p i h
      exact ⟨k, Finset.mem_univ _, hk⟩

theorem takes_eq (f : S2x32x128x128.Idx → Elt F .f32) :
    bigSep Finset.univ (takes (F := F) c X s p sh f)
      = iprop(((c : Thread nD τ).loc cc0_scratch0 ↦[slotSet s]{fullShare} f) ∗ ((c : Thread nD τ).loc main_call0_v0 ↦[blkSet p]{sh} X)) := by
  rw [slot_places, blk_rows]; exact bigSep_sep _ _ _

theorem delivs_eq :
    bigSep Finset.univ (deliv (F := F) c X s p sh)
      = iprop(((c : Thread nD τ).loc cc0_scratch0 ↦[slotSet s]{fullShare} landed X p) ∗ ((c : Thread nD τ).loc main_call0_v0 ↦[blkSet p]{sh} X)) := by
  rw [slot_places, blk_rows]; exact bigSep_sep _ _ _

/-- A slot at rest holding `g`: its places, its semaphore at zero, a share of the array. -/
def Rest (g : S2x32x128x128.Idx → Elt F .f32) : sProp 𝕄 :=
  iprop(((c : Thread nD τ).loc cc0_scratch0 ↦[slotSet s]{fullShare} g) ∗ semVal ((c : Thread nD τ), .dma (semAt s)) 0
    ∗ ((c : Thread nD τ).loc main_call0_v0 ↦{sh} X))

/-- A slot with block `p`'s copies in flight. -/
def Fly : sProp 𝕄 :=
  iprop(Batch EC (c : Thread nD τ) (.dma (semAt s)) () credit (deliv (F := F) c X s p sh) 32 0
    ∗ ((c : Thread nD τ).loc main_call0_v0 ↦[Finset.univ \ blkSet p]{sh} X))

theorem start_slot (g : S2x32x128x128.Idx → Elt F .f32) :
    Rest (F := F) c X s sh g ⊢ WP c (runTo (startAt s p) 32 le_rfl) (fun _ => Fly (F := F) c X s p sh) := by
  unfold Rest Fly WP
  iintro ⟨Hg, Hv, HX⟩
  ihave HX' := (pointsTo_split_subset (Finset.subset_univ (blkSet p))).1 $$ HX
  icases HX' with ⟨HB, HR⟩
  imod (batch_alloc' (Lvl := ℕ) EC (c : Thread nD τ) () credit (deliv (F := F) c X s p sh) (sm := .dma (semAt s)) (E := Set.univ)) $$ Hv with HBat
  have h := starts_to c X s p sh g 32 le_rfl
  unfold WP at h
  iapply (wp_mono _ _ _ (Q := fun _ => iprop((Batch EC (c : Thread nD τ) (.dma (semAt s)) () credit (deliv (F := F) c X s p sh) 32 0
      ∗ bigSep (pending 32) (takes (F := F) c X s p sh g)) ∗ ((c : Thread nD τ).loc main_call0_v0 ↦[Finset.univ \ blkSet p]{sh} X))) fun _ => ?post)
  case post => iintro ⟨⟨H1, -⟩, H2⟩; isplitl [H1]; · iexact H1
               iexact H2
  iapply (wp_frame_r _ _ _)
  isplitr [HR]
  · iapply h
    isplitl [HBat]; · iexact HBat
    rw [← bigSep_pending_zero]
    rw [takes_eq]
    isplitl [Hg]; · iexact Hg
    iexact HB
  · iexact HR

theorem wait_slot (W : Waits sig Unit) :
    iprop(Fly (F := F) c X s p sh ∗ owes (c : Thread nD τ) 0 W)
      ⊢ WP c (runTo (waitAt s) 32 le_rfl) (fun _ => iprop(Rest (F := F) c X s sh (landed X p) ∗ ∃ W', owes (c : Thread nD τ) 0 W')) := by
  unfold Fly WP
  have h := waits_all c X s p sh W
  unfold WP at h
  iintro ⟨⟨HBat, HR⟩, HW⟩
  iapply (wp_mono _ _ _ (Q := fun _ => iprop((bigSep Finset.univ (deliv (F := F) c X s p sh) ∗ semVal ((c : Thread nD τ), .dma (semAt s)) 0
      ∗ ∃ W', owes (c : Thread nD τ) 0 W') ∗ ((c : Thread nD τ).loc main_call0_v0 ↦[Finset.univ \ blkSet p]{sh} X))) fun _ => ?post)
  case post =>
    unfold Rest
    rw [delivs_eq]
    iintro ⟨⟨⟨Hg, HB⟩, Hv, HW⟩, HR⟩
    isplitr [HW]
    · isplitl [Hg]; · iexact Hg
      isplitl [Hv]; · iexact Hv
      iapply (pointsTo_split_subset (Finset.subset_univ (blkSet p))).2
      isplitl [HB]; · iexact HB
      iexact HR
    · iexact HW
  iapply (wp_frame_r _ _ _)
  isplitr [HR]
  · iapply h
    isplitl [HBat]; · iexact HBat
    iexact HW
  · iexact HR

end Cert.KernelIdeal
-- ==== Proof.Phases.lean ====
/-
  What the recurrence kernel's phases compute: the cleared state, the block's input product, 32 steps of the cell, and the classifier
  layer, each as a triple over memrefs held at named contents.
-/
module

public import proofs.«01_k».proof.Proof.Slots
public import Idealize.ShloMosaic.Lib.Pipeline.Value

@[expose] public section

set_option maxRecDepth 65536

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

/-! ## One load, one whole store -/

variable (c : Dev nD)

abbrev Own {s : Shape} {e : EltTy} (M : Memref sig .tc .vmem s e) (Y : s.Idx → Elt F e) : sProp 𝕄 := owns (c : Thread nD τ) M fullShare Y

theorem load_own {s : Shape} {e : EltTy} (M : Memref sig .tc .vmem s e) (r : Rect s) (hl : M.view.LoadsAt r.toLoadRect) (Y : s.Idx → Elt F e)
    (k : (r.shape.Idx → Elt F e) → P (F := F) PUnit) (Q : PUnit → sProp 𝕄) :
    Own c M Y ⊢ iprop((Own c M Y -∗ WP c (k (View.ld Y r)) Q) -∗ WP c (.op (.load M r.toLoadRect hl) k) Q) := by
  unfold Own owns WP
  iintro ⟨%f, %hf, H⟩ Hk
  iapply (wp_load Variants.none (c : Thread nD τ) none Set.univ (View.setOn_subset_set _ _)) $$ H
  iintro H
  rw [View.readAt_eq_ld, hf]
  iapply Hk
  iexists f
  isplitr; · ipureintro; exact hf
  iexact H

theorem store_own {s : Shape} {e : EltTy} (M : Memref sig .tc .vmem s e) {off : Fin s.rank → Nat} (h : off = fun _ => 0)
    (inb : ∀ a, off a + s.size a ≤ s.size a) (w : s.Idx → Elt F e)
    (hx : (M.access (Rect.unit off s.size inb)).Stores Finset.univ)
    (hm : (Finset.univ : Finset (Rect.unit off s.size inb).shape.Idx) = Finset.univ ∨ ∀ a, (Rect.unit off s.size inb).stride a = 1)
    (Y : s.Idx → Elt F e) (k : PUnit → P (F := F) PUnit) (Q : PUnit → sProp 𝕄) :
    Own c M Y ⊢ iprop((Own c M w -∗ WP c (k ⟨⟩) Q) -∗ WP c (.op (.store M (Rect.unit off s.size inb) w Finset.univ hx hm) k) Q) := by
  unfold Own owns WP
  iintro ⟨%f, %hf, H⟩ Hk
  iapply (wp_store (m := M) (r := Rect.unit off s.size inb) (Mk := Finset.univ) (w := w) (f := f) (hx := hx) (hm := hm) Variants.none
    (c : Thread nD τ) none Set.univ ((View.setOn_subset_set _ _).trans (View.set_slice_subset _ _))) $$ H
  iintro H
  iapply Hk
  iexists _
  isplitr; swap; · iexact H
  ipureintro
  have hc := View.read_writes_eq_canon M.view f [(⟨Rect.unit off s.size inb, w⟩ : View.Piece (Elt F) s e)] fun y =>
    ⟨_, List.mem_singleton.mpr rfl, by subst h; rw [Rect.mem_set_unit]; intro a; exact ⟨Nat.zero_le _, by rw [Nat.zero_add]; exact (y a).isLt⟩⟩
  rw [View.canon_unit_zero h] at hc
  exact hc

theorem hz2 : (![0, 0] : Fin 2 → Nat) = fun _ => 0 := funext fun a => by fin_cases a <;> rfl

/-! ## The state -/

/-- Hidden state, cell state, and the two attention sums. -/
structure St (F : FTy → Type) where
  h : Vec F S128x128 .f32
  c : Vec F S128x128 .f32
  z : Vec F S128x1 .f32
  a : Vec F S128x128 .f32

/-- The cleared state. -/
def St.clear : St F := ⟨k0_pay3, k0_pay4, k0_pay5, k0_pay6⟩

abbrev rStep (k : Fin 32) : Rect S4096x512 := Rect.unit (s := S4096x512) (k0_off69 (BitVec.ofNat 32 k.val)) S128x512.size (k0_off69_inb k)

/-- One step of the cell. -/
def St.step (w : Vec F S128x512 .f32) (aw : Vec F S128x1 .f32) (g : Vec F S128x512 .f32) (σ : St F) : St F :=
  ⟨k0_pay12 (k0_pay10 σ.h σ.c g w), k0_pay11 σ.h σ.c g w, k0_pay14 (k0_pay10 σ.h σ.c g w) aw σ.z, k0_pay15 (k0_pay10 σ.h σ.c g w) aw σ.a⟩

/-- The first `n` steps of a block whose input product is `G`. -/
def St.steps (w : Vec F S128x512 .f32) (aw : Vec F S128x1 .f32) (G : Vec F S4096x512 .f32) (σ : St F) : (n : ℕ) → n ≤ 32 → St F
  | 0, _ => σ
  | n + 1, h => (St.steps w aw G σ n (Nat.le_of_succ_le h)).step w aw (View.ld G (rStep ⟨n, h⟩))

/-- The scratch buffers holding a state. -/
def Holds (M11 M12 : Memref sig .tc .vmem S128x128 .f32) (M13 : Memref sig .tc .vmem S128x1 .f32) (M14 : Memref sig .tc .vmem S128x128 .f32)
    (σ : St F) : sProp 𝕄 :=
  iprop(Own c M11 σ.h ∗ Own c M12 σ.c ∗ Own c M13 σ.z ∗ Own c M14 σ.a)

variable (M11 M12 : Memref sig .tc .vmem S128x128 .f32) (M13 : Memref sig .tc .vmem S128x1 .f32) (M14 : Memref sig .tc .vmem S128x128 .f32)

theorem init_spec (σ : St F) :
    Holds c M11 M12 M13 M14 σ ⊢ WP c (initS M11 M12 M13 M14) (fun _ => Holds c M11 M12 M13 M14 St.clear) := by
  unfold Holds
  iintro ⟨H1, H2, H3, H4⟩
  unfold initS
  iapply (load_own c M11 rHH _ _ _ _) $$ H1; iintro H1
  iapply (store_own c M11 hz2 _ _ _ _ _ _ _) $$ H1; iintro H1
  iapply (load_own c M12 rHH _ _ _ _) $$ H2; iintro H2
  iapply (store_own c M12 hz2 _ _ _ _ _ _ _) $$ H2; iintro H2
  iapply (load_own c M13 rH1 _ _ _ _) $$ H3; iintro H3
  iapply (store_own c M13 hz2 _ _ _ _ _ _ _) $$ H3; iintro H3
  iapply (load_own c M14 rHH _ _ _ _) $$ H4; iintro H4
  iapply (store_own c M14 hz2 _ _ _ _ _ _ _) $$ H4; iintro H4
  unfold WP
  rw [wp_ret]; imodintro
  isplitl [H1]; · iexact H1
  isplitl [H2]; · iexact H2
  isplitl [H3]; · iexact H3
  iexact H4

/-! ## The block's input product -/

abbrev rSlot (i : grid0.Coords) : Rect S2x32x128x128 :=
  Rect.unit (s := S2x32x128x128) (k0_off68 i) S1x32x128x128.size (k0_off68_inb i)

theorem gx_spec (i : grid0.Coords) (M2 : Memref sig .tc .vmem S128x512 .f32) (M4 : Memref sig .tc .vmem S1x512 .f32)
    (M9 : Memref sig .tc .vmem S2x32x128x128 .f32) (M10 : Memref sig .tc .vmem S4096x512 .f32) (w : Vec F S128x512 .f32)
    (b : Vec F S1x512 .f32) (B : Vec F S1x32x128x128 .f32) (G : Vec F S4096x512 .f32) (R : sProp 𝕄)
    (hR : ∀ k Q, R ⊢ iprop((R -∗ WP c (k B) Q) -∗
      WP c (.op (.load M9 (rSlot i).toLoadRect (View.loadsAt_vmem h_S1x32x128x128)) k) Q)) :
    iprop(R ∗ Own c M2 w ∗ Own c M4 b ∗ Own c M10 G) ⊢
      WP c (gxS i M2 M4 M9 M10) (fun _ => iprop(R ∗ Own c M2 w ∗ Own c M4 b ∗ Own c M10 (k0_pay7 B w b))) := by
  iintro ⟨HR, H2, H4, H10⟩
  unfold gxS
  iapply (hR _ _) $$ HR; iintro HR
  iapply (load_own c M2 rHG _ _ _ _) $$ H2; iintro H2
  iapply (load_own c M4 r1G _ _ _ _) $$ H4; iintro H4
  iapply (load_own c M10 rGX _ _ _ _) $$ H10; iintro H10
  rw [View.ld_unit_zero hz2, View.ld_unit_zero hz2, View.ld_unit_zero hz2]
  iapply (store_own c M10 hz2 _ _ _ _ _ _ _) $$ H10; iintro H10
  unfold WP
  rw [wp_ret]; imodintro
  isplitl [HR]; · iexact HR
  isplitl [H2]; · iexact H2
  isplitl [H4]; · iexact H4
  iexact H10

/-! ## The steps -/

theorem step_spec (k : Fin 32) (M3 : Memref sig .tc .vmem S128x512 .f32) (M5 : Memref sig .tc .vmem S128x1 .f32)
    (M10 : Memref sig .tc .vmem S4096x512 .f32) (w : Vec F S128x512 .f32) (aw : Vec F S128x1 .f32) (G : Vec F S4096x512 .f32) (σ : St F) :
    iprop(Holds c M11 M12 M13 M14 σ ∗ Own c M3 w ∗ Own c M5 aw ∗ Own c M10 G) ⊢
      WP c (stepS k M3 M5 M10 M11 M12 M13 M14) (fun _ => iprop(Holds c M11 M12 M13 M14 (σ.step w aw (View.ld G (rStep k))) ∗
        Own c M3 w ∗ Own c M5 aw ∗ Own c M10 G)) := by
  unfold Holds
  iintro ⟨⟨H1, H2, H3, H4⟩, H5, H6, H7⟩
  unfold stepS
  iapply (load_own c M11 rHH _ _ _ _) $$ H1; iintro H1
  iapply (load_own c M12 rHH _ _ _ _) $$ H2; iintro H2
  iapply (load_own c M10 (rStep k) _ _ _ _) $$ H7; iintro H7
  iapply (load_own c M3 rHG _ _ _ _) $$ H5; iintro H5
  iapply (load_own c M12 rHH _ _ _ _) $$ H2; iintro H2
  iapply (store_own c M12 hz2 _ _ _ _ _ _ _) $$ H2; iintro H2
  iapply (load_own c M11 rHH _ _ _ _) $$ H1; iintro H1
  iapply (store_own c M11 hz2 _ _ _ _ _ _ _) $$ H1; iintro H1
  iapply (load_own c M5 rH1 _ _ _ _) $$ H6; iintro H6
  iapply (load_own c M13 rH1 _ _ _ _) $$ H3; iintro H3
  iapply (load_own c M13 rH1 _ _ _ _) $$ H3; iintro H3
  iapply (store_own c M13 hz2 _ _ _ _ _ _ _) $$ H3; iintro H3
  iapply (load_own c M14 rHH _ _ _ _) $$ H4; iintro H4
  iapply (load_own c M14 rHH _ _ _ _) $$ H4; iintro H4
  iapply (store_own c M14 hz2 _ _ _ _ _ _ _) $$ H4; iintro H4
  rw [View.ld_unit_zero hz2, View.ld_unit_zero hz2, View.ld_unit_zero hz2, View.ld_unit_zero hz2, View.ld_unit_zero hz2,
    View.ld_unit_zero hz2]
  unfold WP
  rw [wp_ret]; imodintro
  isplitl [H1 H2 H3 H4]
  · isplitl [H1]; · iexact H1
    isplitl [H2]; · iexact H2
    isplitl [H3]; · iexact H3
    iexact H4
  isplitl [H5]; · iexact H5
  isplitl [H6]; · iexact H6
  iexact H7

theorem steps_spec (M3 : Memref sig .tc .vmem S128x512 .f32) (M5 : Memref sig .tc .vmem S128x1 .f32)
    (M10 : Memref sig .tc .vmem S4096x512 .f32) (w : Vec F S128x512 .f32) (aw : Vec F S128x1 .f32) (G : Vec F S4096x512 .f32) (σ : St F)
    (n : ℕ) (hn : n ≤ 32) :
    iprop(Holds c M11 M12 M13 M14 σ ∗ Own c M3 w ∗ Own c M5 aw ∗ Own c M10 G) ⊢
      WP c (runTo (fun k => stepS k M3 M5 M10 M11 M12 M13 M14) n hn) (fun _ => iprop(Holds c M11 M12 M13 M14 (St.steps w aw G σ n hn) ∗
        Own c M3 w ∗ Own c M5 aw ∗ Own c M10 G)) := by
  induction n with
  | zero =>
    rw [runTo_zero]; unfold WP
    iintro H
    rw [wp_pure]; imodintro; iexact H
  | succ n ih =>
    rw [runTo_succ]; unfold WP; rw [wp_bind]
    exact (ih (Nat.le_of_succ_le hn)).trans (wp_mono _ _ _ fun _ => step_spec c M11 M12 M13 M14 ⟨n, hn⟩ M3 M5 M10 w aw G _)

/-! ## The classifier layer -/

theorem fin_spec (M6 : Memref sig .tc .vmem S128x128 .f32) (M7 : Memref sig .tc .vmem S1x128 .f32) (M8 : Memref sig .tc .vmem S128x128 .f32)
    (w : Vec F S128x128 .f32) (b : Vec F S1x128 .f32) (O : Vec F S128x128 .f32) (σ : St F) :
    iprop(Holds c M11 M12 M13 M14 σ ∗ Own c M6 w ∗ Own c M7 b ∗ Own c M8 O) ⊢
      WP c (finS M6 M7 M8 M13 M14) (fun _ => iprop(Holds c M11 M12 M13 M14 σ ∗ Own c M6 w ∗ Own c M7 b ∗ Own c M8 (k0_pay2 σ.a σ.z w b))) := by
  unfold Holds
  iintro ⟨⟨H1, H2, H3, H4⟩, H6, H7, H8⟩
  unfold finS
  iapply (load_own c M14 rHH _ _ _ _) $$ H4; iintro H4
  iapply (load_own c M13 rH1 _ _ _ _) $$ H3; iintro H3
  iapply (load_own c M6 rHH _ _ _ _) $$ H6; iintro H6
  iapply (load_own c M7 r1H _ _ _ _) $$ H7; iintro H7
  iapply (load_own c M8 rHH _ _ _ _) $$ H8; iintro H8
  iapply (store_own c M8 hz2 _ _ _ _ _ _ _) $$ H8; iintro H8
  rw [View.ld_unit_zero hz2, View.ld_unit_zero hz2, View.ld_unit_zero hz2, View.ld_unit_zero hz2]
  unfold WP
  rw [wp_ret]; imodintro
  isplitl [H1 H2 H3 H4]
  · isplitl [H1]; · iexact H1
    isplitl [H2]; · iexact H2
    isplitl [H3]; · iexact H3
    iexact H4
  isplitl [H6]; · iexact H6
  isplitl [H7]; · iexact H7
  iexact H8

end Cert.KernelIdeal
-- ==== Proof.Body.lean ====
/-
  The recurrence kernel's body at one point of its grid, from the double buffer's state before the point to the one after it.
-/
module

public import proofs.«01_k».proof.Proof.Phases

@[expose] public section

set_option maxRecDepth 65536

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

/-! ## The copies' programs, at the offsets the body computes -/

theorem startS_congr {arg1 : Memref sig .tc .hbm S128x512x128 .f32} {arg9 : Memref sig .tc .vmem S2x32x128x128 .f32} {arg15 : DmaSems sig S2}
    {o1 o1' : Fin 1 → Nat} {o4 o4' : Fin 4 → Nat} {o3 o3' : Fin 3 → Nat} (e1 : o1 = o1') (e4 : o4 = o4') (e3 : o3 = o3') (h1 h1' h4 h4' h3 h3') :
    startS (F := F) arg1 arg9 arg15 o1 h1 o4 h4 o3 h3 = startS arg1 arg9 arg15 o1' h1' o4' h4' o3' h3' := by
  subst e1 e4 e3; rfl

theorem waitS_congr {arg1 : Memref sig .tc .hbm S128x512x128 .f32} {arg9 : Memref sig .tc .vmem S2x32x128x128 .f32} {arg15 : DmaSems sig S2}
    {o1 o1' : Fin 1 → Nat} {o4 o4' : Fin 4 → Nat} {o3 o3' : Fin 3 → Nat} (e1 : o1 = o1') (e4 : o4 = o4') (e3 : o3 = o3') (h1 h1' h4 h4' h3 h3') :
    waitS (F := F) arg1 arg9 arg15 o1 h1 o4 h4 o3 h3 = waitS arg1 arg9 arg15 o1' h1' o4' h4' o3' h3' := by
  subst e1 e4 e3; rfl

/-- The other slot. -/
abbrev other (s : Fin 2) : Fin 2 := ⟨(s.val + 1) % 2, Nat.mod_lt _ (by decide)⟩
theorem other_slotOf (p : Fin 16) (h : p.val + 1 < 16) : slotOf ⟨p.val + 1, h⟩ = other (slotOf p) :=
  Fin.ext (by show (p.val + 1) % 2 = (p.val % 2 + 1) % 2; omega)
theorem other_other (p : Fin 16) (h : p.val + 1 < 16) : other (slotOf ⟨p.val + 1, h⟩) = slotOf p :=
  Fin.ext (by show ((p.val + 1) % 2 + 1) % 2 = p.val % 2; omega)

/-- The half of the array's share each slot's copies read at. -/
def half (s : Fin 2) : PosShare TreeShare := if s.val = 0 then fullShare.left else fullShare.right

/-! ## The operands and the state after each block -/

/-- The operands of the recurrence. -/
structure Ins (F : FTy → Type) where
  X : XBuf F
  w1 : Vec F S128x512 .f32
  w2 : Vec F S128x512 .f32
  b : Vec F S1x512 .f32
  aw : Vec F S128x1 .f32
  fw : Vec F S128x128 .f32
  fb : Vec F S1x128 .f32

/-- Block `p` of the input as the kernel loads it. -/
def blkV (X : XBuf F) (p : Fin 16) : Vec F S1x32x128x128 .f32 := fun j =>
  X (ix3 (j 2 : Fin 128) (⟨32 * p.val + (j 1).val, by have h1 := p.isLt; have h2 : (j 1).val < 32 := (j 1).isLt; omega⟩ : Fin 512) (j 3 : Fin 128))

/-- The state after the first `n` blocks. -/
def stAt (I : Ins F) : (n : ℕ) → n ≤ 16 → St F
  | 0, _ => St.clear
  | n + 1, h => St.steps I.w2 I.aw (k0_pay7 (blkV I.X ⟨n, h⟩) I.w1 I.b) (stAt I n (Nat.le_of_succ_le h)) 32 le_rfl

/-- The classifier layer's result. -/
def outOf (I : Ins F) : Vec F S128x128 .f32 := k0_pay2 (stAt I 16 le_rfl).a (stAt I 16 le_rfl).z I.fw I.fb

variable (c : Dev nD) (I : Ins F)

abbrev m10 : Memref sig .tc .vmem S4096x512 .f32 := Memref.whole cc0_scratch1
abbrev m11 : Memref sig .tc .vmem S128x128 .f32 := Memref.whole cc0_scratch2
abbrev m12 : Memref sig .tc .vmem S128x128 .f32 := Memref.whole cc0_scratch3
abbrev m13 : Memref sig .tc .vmem S128x1 .f32 := Memref.whole cc0_scratch4
abbrev m14 : Memref sig .tc .vmem S128x128 .f32 := Memref.whole cc0_scratch5

/-- The scratch state. -/
def Sc (σ : St F) : sProp 𝕄 := iprop(Holds c m11 m12 m13 m14 σ ∗ ∃ G, Own c m10 G)

/-- No copy in flight, nothing said of the scratch buffers. -/
def Idle : sProp 𝕄 := iprop((∃ g, Rest c I.X 0 (half 0) g) ∗ (∃ g, Rest c I.X 1 (half 1) g) ∗ ∃ σ, Sc c σ)

/-- Block `p`'s copies in flight, the other slot free. -/
def Mid (p : Fin 16) : sProp 𝕄 :=
  iprop(Fly c I.X (slotOf p) p (half (slotOf p)) ∗ (∃ g, Rest c I.X (other (slotOf p)) (half (other (slotOf p))) g) ∗ Sc c (stAt I p.val p.isLt.le))

/-- The other slot once the next block's copies were started, if there is a next block. -/
def Nxt (p : Fin 16) : sProp 𝕄 :=
  if h : p.val + 1 < 16 then Fly c I.X (other (slotOf p)) ⟨p.val + 1, h⟩ (half (other (slotOf p)))
  else iprop(∃ g, Rest c I.X (other (slotOf p)) (half (other (slotOf p))) g)

/-- The state of the double buffer and the scratch before point `n`. -/
def Inv (n : ℕ) : sProp 𝕄 :=
  if h : 0 < n ∧ n < 16 then Mid c I ⟨n, h.2⟩ else Idle c I

variable (i : grid0.Coords) (p : Fin 16)

theorem WP_seq {m : P (F := F) PUnit} {n : PUnit → P (F := F) PUnit} {A B : sProp 𝕄} {Q : PUnit → sProp 𝕄}
    (h1 : A ⊢ WP c m (fun _ => B)) (h2 : B ⊢ WP c (n ⟨⟩) Q) : A ⊢ WP c (m >>= n) Q := by
  unfold WP at *; rw [wp_bind]; exact h1.trans (wp_mono _ _ _ fun _ => h2)
theorem WP_frame {m : P (F := F) PUnit} {A B R : sProp 𝕄} (h : A ⊢ WP c m (fun _ => B)) :
    iprop(A ∗ R) ⊢ WP c m (fun _ => iprop(B ∗ R)) := by
  unfold WP at *
  exact (sep_mono_left h).trans (wp_frame_r _ _ _)
theorem WP_done {A : sProp 𝕄} : A ⊢ WP c (pure ⟨⟩) (fun _ => A) := by
  unfold WP; rw [wp_pure]; iintro H; imodintro; iexact H
theorem WP_conseq {m : P (F := F) PUnit} {A A' B B' : sProp 𝕄} (h : A ⊢ WP c m (fun _ => B)) (ha : A' ⊢ A) (hb : B ⊢ B') :
    A' ⊢ WP c m (fun _ => B') := by
  unfold WP at *; exact ha.trans (h.trans (wp_mono _ _ _ fun _ => hb))

theorem phaseA (h : (i 0).val = p.val) :
    Inv c I p.val ⊢ WP c (if _h : isFirst i = 1#1 then do
        initS m11 m12 m13 m14
        runTo (fun k => startS (Memref.whole main_call0_v0) (Memref.whole cc0_scratch0) cc0_scratch6 ![0] inb_S2_S1_0 ![0, k.val, 0, 0]
          (firstOff4_inb k) ![0, k.val, 0] (firstOff3_inb k)) 32 le_rfl
      else pure ⟨⟩) (fun _ => Mid c I p) := by
  by_cases h0 : p.val = 0
  · rw [dif_pos ((isFirst_of i p h).mpr h0)]
    have hp : p = 0 := Fin.ext h0
    subst hp
    have e : (fun k : Fin 32 => startS (F := F) (Memref.whole main_call0_v0) (Memref.whole cc0_scratch0) cc0_scratch6 ![0] inb_S2_S1_0 ![0, k.val, 0, 0]
          (firstOff4_inb k) ![0, k.val, 0] (firstOff3_inb k)) = startAt 0 0 :=
      funext fun k => startS_congr rfl rfl (by unfold rowOff; rw [show 32 * ((0 : Fin 16) : ℕ) + k.val = k.val by simp]) _ _ _ _ _ _
    rw [e]
    unfold Inv
    rw [dif_neg (by simp)]
    unfold Idle Mid Sc
    refine WP_seq c (B := iprop((∃ g, Rest c I.X 0 (half 0) g) ∗ (∃ g, Rest c I.X 1 (half 1) g) ∗ Holds c m11 m12 m13 m14 St.clear ∗ ∃ G, Own c m10 G)) ?_ ?_
    · iintro ⟨H0, H1, ⟨%σ, HS, HG⟩⟩
      iapply (WP_conseq c (WP_frame c (R := iprop((∃ g, Rest c I.X 0 (half 0) g) ∗ (∃ g, Rest c I.X 1 (half 1) g) ∗ ∃ G, Own c m10 G))
        (init_spec c m11 m12 m13 m14 σ)) .rfl ?_)
      · iintro ⟨HS, H0, H1, HG⟩
        isplitl [H0]; · iexact H0
        isplitl [H1]; · iexact H1
        isplitl [HS]; · iexact HS
        iexact HG
      · isplitl [HS]; · iexact HS
        isplitl [H0]; · iexact H0
        isplitl [H1]; · iexact H1
        iexact HG
    · iintro ⟨⟨%g0, H0⟩, HR⟩
      iapply (WP_frame c (start_slot c I.X 0 0 (half 0) g0))
      isplitl [H0]; · iexact H0
      iexact HR
  · rw [dif_neg (fun hh => h0 ((isFirst_of i p h).mp hh))]
    unfold Inv
    rw [dif_pos ⟨Nat.pos_of_ne_zero h0, p.isLt⟩]
    exact WP_done c

theorem phaseB (h : (i 0).val = p.val) :
    Mid c I p ⊢ WP c (if h : k0_cond2 i = 1#1 then
        runTo (fun k => startS (Memref.whole main_call0_v0) (Memref.whole cc0_scratch0) cc0_scratch6 (k0_off1 i) (k0_off1_inb i h)
          (nextOff i (BitVec.ofNat 32 k.val)) (nextOff_inb i k) (k0_off3 i (BitVec.ofNat 32 k.val)) (k0_off3_inb i h k)) 32 le_rfl
      else pure ⟨⟩) (fun _ => iprop(Fly c I.X (slotOf p) p (half (slotOf p)) ∗ Nxt c I p ∗ Sc c (stAt I p.val p.isLt.le))) := by
  by_cases h0 : p.val + 1 < 16
  · rw [dif_pos ((cond2_of i p h).mpr h0)]
    have e : (fun k : Fin 32 => startS (F := F) (Memref.whole main_call0_v0) (Memref.whole cc0_scratch0) cc0_scratch6 (k0_off1 i)
          (k0_off1_inb i ((cond2_of i p h).mpr h0)) (nextOff i (BitVec.ofNat 32 k.val)) (nextOff_inb i k) (k0_off3 i (BitVec.ofNat 32 k.val))
          (k0_off3_inb i ((cond2_of i p h).mpr h0) k)) = startAt (slotOf ⟨p.val + 1, h0⟩) ⟨p.val + 1, h0⟩ :=
      funext fun k => startS_congr (off1_of i p h) (next_of i p h k) (off3_of i p h k) _ _ _ _ _ _
    rw [e, other_slotOf p h0]
    unfold Mid Nxt
    rw [dif_pos h0]
    iintro ⟨HF, ⟨%g, HR⟩, HS⟩
    iapply (WP_conseq c (WP_frame c (R := iprop(Fly c I.X (slotOf p) p (half (slotOf p)) ∗ Sc c (stAt I p.val p.isLt.le)))
        (start_slot c I.X (other (slotOf p)) ⟨p.val + 1, h0⟩ (half (other (slotOf p))) g)) .rfl ?_)
    · iintro ⟨H1, H2, H3⟩
      isplitl [H2]; · iexact H2
      isplitl [H1]; · iexact H1
      iexact H3
    · isplitl [HR]; · iexact HR
      isplitl [HF]; · iexact HF
      iexact HS
  · rw [dif_neg (fun hh => h0 ((cond2_of i p h).mp hh))]
    unfold Mid Nxt
    rw [dif_neg h0]
    exact WP_done c

theorem phaseC (h : (i 0).val = p.val) (W : Waits sig Unit) :
    iprop(Fly c I.X (slotOf p) p (half (slotOf p)) ∗ owes (c : Thread nD τ) 0 W) ⊢
      WP c (runTo (fun k => waitS (Memref.whole main_call0_v0) (Memref.whole cc0_scratch0) cc0_scratch6 (k0_off35 i) (k0_off35_inb i)
        (hereOff i (BitVec.ofNat 32 k.val)) (hereOff_inb i k) ![0, k.val, 0] (firstOff3_inb k)) 32 le_rfl)
        (fun _ => iprop(Rest c I.X (slotOf p) (half (slotOf p)) (landed I.X p) ∗ ∃ W', owes (c : Thread nD τ) 0 W')) := by
  have e : (fun k : Fin 32 => waitS (F := F) (Memref.whole main_call0_v0) (Memref.whole cc0_scratch0) cc0_scratch6 (k0_off35 i) (k0_off35_inb i)
        (hereOff i (BitVec.ofNat 32 k.val)) (hereOff_inb i k) ![0, k.val, 0] (firstOff3_inb k)) = waitAt (slotOf p) :=
    funext fun k => waitS_congr (off35_of i p h) (here_of i p h k) rfl _ _ _ _ _ _
  rw [e]
  exact wait_slot c I.X (slotOf p) p (half (slotOf p)) W

/-- The slot's block, as the kernel loads it. -/
theorem load_slot (h : (i 0).val = p.val) (sh : PosShare TreeShare) (k : Vec F S1x32x128x128 .f32 → P (F := F) PUnit) (Q : PUnit → sProp 𝕄) :
    Rest c I.X (slotOf p) sh (landed I.X p) ⊢ iprop((Rest c I.X (slotOf p) sh (landed I.X p) -∗ WP c (k (blkV I.X p)) Q) -∗
      WP c (.op (.load (Memref.whole cc0_scratch0) (rSlot i).toLoadRect (View.loadsAt_vmem h_S1x32x128x128)) k) Q) := by
  have hS : (Memref.whole cc0_scratch0 : Memref sig .tc .vmem S2x32x128x128 .f32).view.setOn (rSlot i).set ⊆ slotSet (slotOf p) := by
    intro j hj
    obtain ⟨x, hx, rfl⟩ := Finset.mem_map.mp hj
    have h0 := (Rect.mem_set_unit (inb := k0_off68_inb i)).mp hx 0
    rw [off68_of i p h] at h0
    rw [mem_slotSet]
    apply Fin.ext
    have h1 : (slotOf p).val ≤ (x 0).val := h0.1
    have h2 : (x 0).val < (slotOf p).val + 1 := h0.2
    show (x 0).val = (slotOf p).val
    omega
  have hv : (Memref.whole cc0_scratch0 : Memref sig .tc .vmem S2x32x128x128 .f32).view.readAt (Elt F) (rSlot i).toLoadRect (landed I.X p) = blkV I.X p := by
    funext y
    show landed I.X p ((rSlot i).emb y) = _
    have e1 : (((rSlot i).emb y) 1).val = (y 1).val := by
      show (k0_off68 i) 1 + 1 * (y 1).val = _
      rw [off68_of i p h]
      show 0 + 1 * (y 1).val = _
      omega
    have e2 : ((rSlot i).emb y) 2 = y 2 := by
      apply Fin.ext
      show (k0_off68 i) 2 + 1 * (y 2).val = _
      rw [off68_of i p h]
      show 0 + 1 * (y 2).val = _
      omega
    have e3 : ((rSlot i).emb y) 3 = y 3 := by
      apply Fin.ext
      show (k0_off68 i) 3 + 1 * (y 3).val = _
      rw [off68_of i p h]
      show 0 + 1 * (y 3).val = _
      omega
    unfold landed blkV
    rw [e2, e3]
    simp only [e1]
  unfold Rest WP
  iintro ⟨Hg, Hv, HX⟩ Hk
  iapply (wp_load (m := Memref.whole cc0_scratch0) (r := (rSlot i).toLoadRect) Variants.none (c : Thread nD τ) none Set.univ hS) $$ Hg
  iintro Hg
  rw [hv]
  iapply Hk
  isplitl [Hg]; · iexact Hg
  isplitl [Hv]; · iexact Hv
  iexact HX

/-- What follows the waits: the block's input product, its 32 steps, and at the last point the classifier layer. -/
theorem phaseD (h : (i 0).val = p.val) (M2 M3 : Memref sig .tc .vmem S128x512 .f32) (M4 : Memref sig .tc .vmem S1x512 .f32)
    (M5 : Memref sig .tc .vmem S128x1 .f32) (M6 : Memref sig .tc .vmem S128x128 .f32) (M7 : Memref sig .tc .vmem S1x128 .f32)
    (M8 : Memref sig .tc .vmem S128x128 .f32) (O : Vec F S128x128 .f32) :
    iprop(Rest c I.X (slotOf p) (half (slotOf p)) (landed I.X p) ∗ Sc c (stAt I p.val p.isLt.le) ∗ Own c M2 I.w1 ∗ Own c M3 I.w2 ∗ Own c M4 I.b
        ∗ Own c M5 I.aw ∗ Own c M6 I.fw ∗ Own c M7 I.fb ∗ Own c M8 O) ⊢
      WP c (do
        gxS i M2 M4 (Memref.whole cc0_scratch0) m10
        runTo (fun k => stepS k M3 M5 m10 m11 m12 m13 m14) 32 le_rfl
        if _h : k0_cond3 i = 1#1 then finS M6 M7 M8 m13 m14
        else pure ⟨⟩
        pure ⟨⟩)
      (fun _ => iprop(Rest c I.X (slotOf p) (half (slotOf p)) (landed I.X p) ∗ Sc c (stAt I (p.val + 1) p.isLt) ∗ Own c M2 I.w1 ∗ Own c M3 I.w2
        ∗ Own c M4 I.b ∗ Own c M5 I.aw ∗ Own c M6 I.fw ∗ Own c M7 I.fb ∗ Own c M8 (if p.val = 15 then outOf I else O))) := by
  refine WP_seq c (B := iprop(Rest c I.X (slotOf p) (half (slotOf p)) (landed I.X p) ∗ Holds c m11 m12 m13 m14 (stAt I p.val p.isLt.le)
    ∗ Own c m10 (k0_pay7 (blkV I.X p) I.w1 I.b) ∗ Own c M2 I.w1 ∗ Own c M3 I.w2 ∗ Own c M4 I.b
    ∗ Own c M5 I.aw ∗ Own c M6 I.fw ∗ Own c M7 I.fb ∗ Own c M8 O)) ?_ (WP_seq c (B := iprop(Rest c I.X (slotOf p) (half (slotOf p)) (landed I.X p)
    ∗ Holds c m11 m12 m13 m14 (stAt I (p.val + 1) p.isLt)
    ∗ Own c m10 (k0_pay7 (blkV I.X p) I.w1 I.b) ∗ Own c M2 I.w1 ∗ Own c M3 I.w2 ∗ Own c M4 I.b
    ∗ Own c M5 I.aw ∗ Own c M6 I.fw ∗ Own c M7 I.fb ∗ Own c M8 O)) ?_ ?_)
  · unfold Sc
    iintro ⟨HR, ⟨HS, ⟨%G, H10⟩⟩, H2, H3, H4, H5, H6, H7, H8⟩
    iapply (WP_conseq c (WP_frame c (R := iprop(Holds c m11 m12 m13 m14 (stAt I p.val p.isLt.le) ∗ Own c M3 I.w2
        ∗ Own c M5 I.aw ∗ Own c M6 I.fw ∗ Own c M7 I.fb ∗ Own c M8 O))
      (gx_spec c i M2 M4 (Memref.whole cc0_scratch0) m10 I.w1 I.b (blkV I.X p) G _ (load_slot c I i p h (half (slotOf p))))) .rfl ?_)
    · iintro ⟨⟨HR, H2, H4, H10⟩, HS, H3, H5, H6, H7, H8⟩
      isplitl [HR]; · iexact HR
      isplitl [HS]; · iexact HS
      isplitl [H10]; · iexact H10
      isplitl [H2]; · iexact H2
      isplitl [H3]; · iexact H3
      isplitl [H4]; · iexact H4
      isplitl [H5]; · iexact H5
      isplitl [H6]; · iexact H6
      isplitl [H7]; · iexact H7
      iexact H8
    · isplitl [HR H2 H4 H10]
      · isplitl [HR]; · iexact HR
        isplitl [H2]; · iexact H2
        isplitl [H4]; · iexact H4
        iexact H10
      isplitl [HS]; · iexact HS
      isplitl [H3]; · iexact H3
      isplitl [H5]; · iexact H5
      isplitl [H6]; · iexact H6
      isplitl [H7]; · iexact H7
      iexact H8
  · iintro ⟨HR, HS, H10, H2, H3, H4, H5, H6, H7, H8⟩
    iapply (WP_conseq c (WP_frame c (R := iprop(Rest c I.X (slotOf p) (half (slotOf p)) (landed I.X p) ∗ Own c M2 I.w1
        ∗ Own c M4 I.b ∗ Own c M6 I.fw ∗ Own c M7 I.fb ∗ Own c M8 O))
      (steps_spec c m11 m12 m13 m14 M3 M5 m10 I.w2 I.aw (k0_pay7 (blkV I.X p) I.w1 I.b) (stAt I p.val p.isLt.le) 32 le_rfl)) .rfl ?_)
    · iintro ⟨⟨HS, H3, H5, H10⟩, HR, H2, H4, H6, H7, H8⟩
      isplitl [HR]; · iexact HR
      isplitl [HS]; · iexact HS
      isplitl [H10]; · iexact H10
      isplitl [H2]; · iexact H2
      isplitl [H3]; · iexact H3
      isplitl [H4]; · iexact H4
      isplitl [H5]; · iexact H5
      isplitl [H6]; · iexact H6
      isplitl [H7]; · iexact H7
      iexact H8
    · isplitl [HS H3 H5 H10]
      · isplitl [HS]; · iexact HS
        isplitl [H3]; · iexact H3
        isplitl [H5]; · iexact H5
        iexact H10
      isplitl [HR]; · iexact HR
      isplitl [H2]; · iexact H2
      isplitl [H4]; · iexact H4
      isplitl [H6]; · iexact H6
      isplitl [H7]; · iexact H7
      iexact H8
  · by_cases h15 : p.val = 15
    · rw [dif_pos ((cond3_of i p h).mpr h15), if_pos h15]
      have ho : outOf I = k0_pay2 (stAt I (p.val + 1) p.isLt).a (stAt I (p.val + 1) p.isLt).z I.fw I.fb := by
        obtain ⟨p, hp⟩ := p; obtain rfl : p = 15 := h15; rfl
      rw [ho]
      unfold Sc
      refine WP_seq c ?_ (WP_done c)
      iintro ⟨HR, HS, H10, H2, H3, H4, H5, H6, H7, H8⟩
      iapply (WP_conseq c (WP_frame c (R := iprop(Rest c I.X (slotOf p) (half (slotOf p)) (landed I.X p) ∗ Own c M2 I.w1
        ∗ Own c M3 I.w2 ∗ Own c M4 I.b ∗ Own c M5 I.aw ∗ Own c m10 (k0_pay7 (blkV I.X p) I.w1 I.b)))
        (fin_spec c m11 m12 m13 m14 M6 M7 M8 I.fw I.fb O (stAt I (p.val + 1) p.isLt))) .rfl ?_)
      · iintro ⟨⟨HS, H6, H7, H8⟩, HR, H2, H3, H4, H5, H10⟩
        isplitl [HR]; · iexact HR
        isplitl [HS H10]
        · isplitl [HS]; · iexact HS
          iexists _; iexact H10
        isplitl [H2]; · iexact H2
        isplitl [H3]; · iexact H3
        isplitl [H4]; · iexact H4
        isplitl [H5]; · iexact H5
        isplitl [H6]; · iexact H6
        isplitl [H7]; · iexact H7
        iexact H8
      · isplitl [HS H6 H7 H8]
        · isplitl [HS]; · iexact HS
          isplitl [H6]; · iexact H6
          isplitl [H7]; · iexact H7
          iexact H8
        isplitl [HR]; · iexact HR
        isplitl [H2]; · iexact H2
        isplitl [H3]; · iexact H3
        isplitl [H4]; · iexact H4
        isplitl [H5]; · iexact H5
        iexact H10
    · rw [dif_neg (fun hh => h15 ((cond3_of i p h).mp hh)), if_neg h15]
      unfold Sc
      refine WP_conseq c (WP_seq c (WP_done c) (WP_done c)) ?_ .rfl
      iintro ⟨HR, HS, H10, H2, H3, H4, H5, H6, H7, H8⟩
      isplitl [HR]; · iexact HR
      isplitl [HS H10]
      · isplitl [HS]; · iexact HS
        iexists _; iexact H10
      isplitl [H2]; · iexact H2
      isplitl [H3]; · iexact H3
      isplitl [H4]; · iexact H4
      isplitl [H5]; · iexact H5
      isplitl [H6]; · iexact H6
      isplitl [H7]; · iexact H7
      iexact H8

/-- The double buffer and the scratch after a point are the state before the next. -/
theorem next_inv :
    iprop(Rest c I.X (slotOf p) (half (slotOf p)) (landed I.X p) ∗ Nxt c I p ∗ Sc c (stAt I (p.val + 1) p.isLt)) ⊢ Inv c I (p.val + 1) := by
  unfold Nxt Inv
  by_cases h : p.val + 1 < 16
  · rw [dif_pos h, dif_pos ⟨Nat.succ_pos _, h⟩]
    unfold Mid
    rw [other_other p h, other_slotOf p h]
    iintro ⟨H1, H2, H3⟩
    isplitl [H2]; · iexact H2
    isplitl [H1]; · iexists _; iexact H1
    iexact H3
  · rw [dif_neg h, dif_neg (fun hh => h hh.2)]
    unfold Idle
    have hp : p = 15 := Fin.ext (by have := p.isLt; show p.val = 15; omega)
    have e1 : slotOf p = 1 := by subst hp; rfl
    rw [e1, show other 1 = 0 from rfl]
    iintro ⟨H1, H2, H3⟩
    isplitl [H2]; · iexact H2
    isplitl [H1]; · iexists _; iexact H1
    iexists _; iexact H3

theorem bodyS_seq (arg1 : Memref sig .tc .hbm S128x512x128 .f32) (arg2 arg3 : Memref sig .tc .vmem S128x512 .f32)
    (arg4 : Memref sig .tc .vmem S1x512 .f32) (arg5 : Memref sig .tc .vmem S128x1 .f32) (arg6 : Memref sig .tc .vmem S128x128 .f32)
    (arg7 : Memref sig .tc .vmem S1x128 .f32) (arg8 : Memref sig .tc .vmem S128x128 .f32) (arg9 : Memref sig .tc .vmem S2x32x128x128 .f32)
    (arg10 : Memref sig .tc .vmem S4096x512 .f32) (arg11 arg12 : Memref sig .tc .vmem S128x128 .f32)
    (arg13 : Memref sig .tc .vmem S128x1 .f32) (arg14 : Memref sig .tc .vmem S128x128 .f32) (arg15 : DmaSems sig S2) :
    bodyS (F := F) i arg1 arg2 arg3 arg4 arg5 arg6 arg7 arg8 arg9 arg10 arg11 arg12 arg13 arg14 arg15 =
      ((if _h : isFirst i = 1#1 then do
          initS arg11 arg12 arg13 arg14
          runTo (fun k => startS arg1 arg9 arg15 ![0] inb_S2_S1_0 ![0, k.val, 0, 0] (firstOff4_inb k) ![0, k.val, 0] (firstOff3_inb k)) 32 le_rfl
        else pure ⟨⟩) >>= fun _ =>
      (if h : k0_cond2 i = 1#1 then
          runTo (fun k => startS arg1 arg9 arg15 (k0_off1 i) (k0_off1_inb i h) (nextOff i (BitVec.ofNat 32 k.val)) (nextOff_inb i k)
            (k0_off3 i (BitVec.ofNat 32 k.val)) (k0_off3_inb i h k)) 32 le_rfl
        else pure ⟨⟩) >>= fun _ =>
      runTo (fun k => waitS arg1 arg9 arg15 (k0_off35 i) (k0_off35_inb i) (hereOff i (BitVec.ofNat 32 k.val)) (hereOff_inb i k)
        ![0, k.val, 0] (firstOff3_inb k)) 32 le_rfl >>= fun _ => do
        gxS i arg2 arg4 arg9 arg10
        runTo (fun k => stepS k arg3 arg5 arg10 arg11 arg12 arg13 arg14) 32 le_rfl
        if _h : k0_cond3 i = 1#1 then finS arg6 arg7 arg8 arg13 arg14
        else pure ⟨⟩
        pure ⟨⟩) := by
  unfold bodyS
  by_cases h1 : isFirst i = 1#1 <;> by_cases h2 : k0_cond2 i = 1#1 <;> simp only [h1, h2, dite_true, dite_false] <;> rfl

/-- The operands' memrefs at their contents. -/
def Wins (M2 M3 : Memref sig .tc .vmem S128x512 .f32) (M4 : Memref sig .tc .vmem S1x512 .f32)
    (M5 : Memref sig .tc .vmem S128x1 .f32) (M6 : Memref sig .tc .vmem S128x128 .f32) (M7 : Memref sig .tc .vmem S1x128 .f32)
    (M8 : Memref sig .tc .vmem S128x128 .f32) (O : Vec F S128x128 .f32) : sProp 𝕄 :=
  iprop(Own c M2 I.w1 ∗ Own c M3 I.w2 ∗ Own c M4 I.b ∗ Own c M5 I.aw ∗ Own c M6 I.fw ∗ Own c M7 I.fb ∗ Own c M8 O)

theorem body_spec (h : (i 0).val = p.val) (M2 M3 : Memref sig .tc .vmem S128x512 .f32) (M4 : Memref sig .tc .vmem S1x512 .f32)
    (M5 : Memref sig .tc .vmem S128x1 .f32) (M6 : Memref sig .tc .vmem S128x128 .f32) (M7 : Memref sig .tc .vmem S1x128 .f32)
    (M8 : Memref sig .tc .vmem S128x128 .f32) (O : Vec F S128x128 .f32) (W : Waits sig Unit) :
    iprop(Inv c I p.val ∗ owes (c : Thread nD τ) 0 W ∗ Wins c I M2 M3 M4 M5 M6 M7 M8 O) ⊢
      WP c (bodyS i (Memref.whole main_call0_v0) M2 M3 M4 M5 M6 M7 M8 (Memref.whole cc0_scratch0) m10 m11 m12 m13 m14 cc0_scratch6)
        (fun _ => iprop(Inv c I (p.val + 1) ∗ (∃ W', owes (c : Thread nD τ) 0 W')
          ∗ Wins c I M2 M3 M4 M5 M6 M7 M8 (if p.val = 15 then outOf I else O))) := by
  rw [bodyS_seq]
  refine WP_seq c (WP_frame c (phaseA c I i p h)) (WP_seq c (WP_frame c (phaseB c I i p h)) (WP_seq c
    (B := iprop(Rest c I.X (slotOf p) (half (slotOf p)) (landed I.X p) ∗ (∃ W', owes (c : Thread nD τ) 0 W') ∗ Nxt c I p
      ∗ Sc c (stAt I p.val p.isLt.le) ∗ Wins c I M2 M3 M4 M5 M6 M7 M8 O)) ?_ ?_))
  · iintro ⟨⟨HF, HN, HS⟩, HW, HO⟩
    iapply (WP_conseq c (WP_frame c (R := iprop(Nxt c I p ∗ Sc c (stAt I p.val p.isLt.le) ∗ Wins c I M2 M3 M4 M5 M6 M7 M8 O))
      (phaseC c I i p h W)) .rfl ?_)
    · iintro ⟨⟨HR, HW⟩, HN, HS, HO⟩
      isplitl [HR]; · iexact HR
      isplitl [HW]; · iexact HW
      isplitl [HN]; · iexact HN
      isplitl [HS]; · iexact HS
      iexact HO
    · isplitl [HF HW]
      · isplitl [HF]; · iexact HF
        iexact HW
      isplitl [HN]; · iexact HN
      isplitl [HS]; · iexact HS
      iexact HO
  · unfold Wins
    refine WP_conseq c (WP_frame c (R := iprop((∃ W', owes (c : Thread nD τ) 0 W') ∗ Nxt c I p)) (phaseD c I i p h M2 M3 M4 M5 M6 M7 M8 O)) ?_ ?_
    · iintro ⟨HR, HW, HN, HS, HO⟩
      isplitl [HR HS HO]
      · isplitl [HR]; · iexact HR
        isplitl [HS]; · iexact HS
        iexact HO
      isplitl [HW]; · iexact HW
      iexact HN
    · iintro ⟨⟨HR, HS, HO⟩, HW, HN⟩
      isplitl [HR HS HN]
      · iapply (next_inv c I p)
        isplitl [HR]; · iexact HR
        isplitl [HN]; · iexact HN
        iexact HS
      isplitl [HW]; · iexact HW
      iexact HO

end Cert.KernelIdeal
-- ==== Proof.Region0.lean ====
/-
  The recurrence region: its proof data over the buffers' contents at entry, and the body's obligation at each point of the grid.
-/
module

public import proofs.«01_k».proof.Proof.Body
public import proofs.«01_k».proof.Proof.Gen.KernelIdeal.Launch
public import proofs.«01_k».proof.Proof.Gen.KernelIdeal.Points
public import Idealize.ShloMosaic.Lib.Pipeline.FrameBody

@[expose] public section

set_option maxRecDepth 65536

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The recurrence's operands in the buffers. -/
def insOf (c : Dev nD) : Ins F :=
  ⟨V c main_call0_v0, V c main_call0_v1, V c main_call0_v2, V c main_call0_v4, V c main_call0_v5, V c main_call0_v6, V c main_call0_v7⟩

/-- What the region holds beside the double buffer's state. -/
def Beside (c : Dev nD) : sProp 𝕄 :=
  iprop((∃ f, (c : Thread nD τ).loc cc1_stg0_0 ↦{fullShare} f) ∗ (∃ f, (c : Thread nD τ).loc cc1_stg1_0 ↦{fullShare} f)
    ∗ (∃ f, (c : Thread nD τ).loc cc1_stg2_0 ↦{fullShare} f) ∗ (∃ f, (c : Thread nD τ).loc cc1_stg3_0 ↦{fullShare} f)
    ∗ (∃ f, (c : Thread nD τ).loc cc1_stg4_0 ↦{fullShare} f) ∗ ∃ r, prngReg c r)

def PhiS (c : Dev nD) (n : ℕ) (h : n ≤ grid0.N) : sProp 𝕄 := iprop(Inv c (insOf V c) n ∗ Beside (F := F) c)

def dat0 (c : Dev nD) : Dat τ (Elt F) Unit ℕ (Pipeline.UD sig nD τ) ℕ cfg0 c where
  A w := V c (Pipeline.arrRef spec0 w)
  after w _ := match w with
    | ⟨0, _⟩ => V c main_call0_v1
    | ⟨1, _⟩ => V c main_call0_v2
    | ⟨2, _⟩ => V c main_call0_v4
    | ⟨3, _⟩ => V c main_call0_v5
    | ⟨4, _⟩ => V c main_call0_v6
    | ⟨5, _⟩ => V c main_call0_v7
    | ⟨6, _⟩ => outOf (insOf V c)
  Φ t := PhiS V c t.val (Nat.le_of_lt_succ t.isLt)
  q _ := fullShare
  owed _ := 0

theorem block0 (c : Dev nD) (t : Fin cfg0.N) : (dat0 V c).blockOf 0 t = V c main_call0_v1 := by
  funext x
  show V c main_call0_v1 _ = V c main_call0_v1 x
  refine congrArg _ (funext fun a => Fin.ext ?_)
  fin_cases a
  · show 0 * 128 + 1 * (x 0).val = (x 0).val; omega
  · show 0 * 512 + 1 * (x 1).val = (x 1).val; omega
theorem block1 (c : Dev nD) (t : Fin cfg0.N) : (dat0 V c).blockOf 1 t = V c main_call0_v2 := by
  funext x
  show V c main_call0_v2 _ = V c main_call0_v2 x
  refine congrArg _ (funext fun a => Fin.ext ?_)
  fin_cases a
  · show 0 * 128 + 1 * (x 0).val = (x 0).val; omega
  · show 0 * 512 + 1 * (x 1).val = (x 1).val; omega
theorem block2 (c : Dev nD) (t : Fin cfg0.N) : (dat0 V c).blockOf 2 t = V c main_call0_v4 := by
  funext x
  show V c main_call0_v4 _ = V c main_call0_v4 x
  refine congrArg _ (funext fun a => Fin.ext ?_)
  fin_cases a
  · show 0 * 1 + 1 * (x 0).val = (x 0).val; omega
  · show 0 * 512 + 1 * (x 1).val = (x 1).val; omega
theorem block3 (c : Dev nD) (t : Fin cfg0.N) : (dat0 V c).blockOf 3 t = V c main_call0_v5 := by
  funext x
  show V c main_call0_v5 _ = V c main_call0_v5 x
  refine congrArg _ (funext fun a => Fin.ext ?_)
  fin_cases a
  · show 0 * 128 + 1 * (x 0).val = (x 0).val; omega
  · show 0 * 1 + 1 * (x 1).val = (x 1).val; omega
theorem block4 (c : Dev nD) (t : Fin cfg0.N) : (dat0 V c).blockOf 4 t = V c main_call0_v6 := by
  funext x
  show V c main_call0_v6 _ = V c main_call0_v6 x
  refine congrArg _ (funext fun a => Fin.ext ?_)
  fin_cases a
  · show 0 * 128 + 1 * (x 0).val = (x 0).val; omega
  · show 0 * 128 + 1 * (x 1).val = (x 1).val; omega
theorem block5 (c : Dev nD) (t : Fin cfg0.N) : (dat0 V c).blockOf 5 t = V c main_call0_v7 := by
  funext x
  show V c main_call0_v7 _ = V c main_call0_v7 x
  refine congrArg _ (funext fun a => Fin.ext ?_)
  fin_cases a
  · show 0 * 1 + 1 * (x 0).val = (x 0).val; omega
  · show 0 * 128 + 1 * (x 1).val = (x 1).val; omega

theorem before0 (c : Dev nD) (t : Fin cfg0.N) (d) : (dat0 V c).before 0 t d = V c main_call0_v1 :=
  ((dat0 V c).before_in_eq_fetched 0 rfl (fun _ => rfl) (fun _ _ _ => rfl) (fun t => (block0 V c t).symm) t d).trans (block0 V c t)
theorem before1 (c : Dev nD) (t : Fin cfg0.N) (d) : (dat0 V c).before 1 t d = V c main_call0_v2 :=
  ((dat0 V c).before_in_eq_fetched 1 rfl (fun _ => rfl) (fun _ _ _ => rfl) (fun t => (block1 V c t).symm) t d).trans (block1 V c t)
theorem before2 (c : Dev nD) (t : Fin cfg0.N) (d) : (dat0 V c).before 2 t d = V c main_call0_v4 :=
  ((dat0 V c).before_in_eq_fetched 2 rfl (fun _ => rfl) (fun _ _ _ => rfl) (fun t => (block2 V c t).symm) t d).trans (block2 V c t)
theorem before3 (c : Dev nD) (t : Fin cfg0.N) (d) : (dat0 V c).before 3 t d = V c main_call0_v5 :=
  ((dat0 V c).before_in_eq_fetched 3 rfl (fun _ => rfl) (fun _ _ _ => rfl) (fun t => (block3 V c t).symm) t d).trans (block3 V c t)
theorem before4 (c : Dev nD) (t : Fin cfg0.N) (d) : (dat0 V c).before 4 t d = V c main_call0_v6 :=
  ((dat0 V c).before_in_eq_fetched 4 rfl (fun _ => rfl) (fun _ _ _ => rfl) (fun t => (block4 V c t).symm) t d).trans (block4 V c t)
theorem before5 (c : Dev nD) (t : Fin cfg0.N) (d) : (dat0 V c).before 5 t d = V c main_call0_v7 :=
  ((dat0 V c).before_in_eq_fetched 5 rfl (fun _ => rfl) (fun _ _ _ => rfl) (fun t => (block5 V c t).symm) t d).trans (block5 V c t)

theorem coord0 (t : Fin cfg0.N) : (grid0.coords t 0).val = t.val := by
  have h : ∀ t : Fin grid0.N, (grid0.coords t 0).val = t.val := by decide +kernel
  exact h t

theorem lt16 (t : Fin cfg0.N) : t.val < 16 := lt_of_lt_of_eq t.isLt N_0

theorem phi_before (c : Dev nD) (t : Fin cfg0.N) : (dat0 V c).Φ t.castSucc = iprop(Inv c (insOf V c) t.val ∗ Beside (F := F) c) := by
  dsimp only [dat0]; exact Dat.Φ_castSucc (PhiS V c) t
theorem phi_after (c : Dev nD) (t : Fin cfg0.N) : (dat0 V c).Φ t.succ = iprop(Inv c (insOf V c) (t.val + 1) ∗ Beside (F := F) c) := rfl

/-- The body at a point, over the staging buffers as the pipeline holds them there. -/
theorem point_spec (c : Dev nD) (t : Fin cfg0.N) (O : Vec F S128x128 .f32) (W : Waits sig Unit) :
    iprop(Inv c (insOf V c) t.val ∗ owes (c : Thread nD τ) 0 W
        ∗ Wins c (insOf V c) (st0_0 t) (st0_1 t) (st0_2 t) (st0_3 t) (st0_4 t) (st0_5 t) (st0_6 t) O) ⊢
      WP c (bodyAt0 t) (fun _ => iprop(Inv c (insOf V c) (t.val + 1) ∗ (∃ W', owes (c : Thread nD τ) 0 W')
        ∗ Wins c (insOf V c) (st0_0 t) (st0_1 t) (st0_2 t) (st0_3 t) (st0_4 t) (st0_5 t) (st0_6 t)
            (if t.val = 15 then outOf (insOf V c) else O))) := by
  unfold bodyAt0
  rw [body_eq]
  exact body_spec c (insOf V c) (grid0.coords t) ⟨t.val, lt16 t⟩ (coord0 t) (st0_0 t) (st0_1 t) (st0_2 t) (st0_3 t) (st0_4 t) (st0_5 t)
    (st0_6 t) O W

theorem body_obligation0 (c : Dev nD) : BodyObligationLoose (dat0 V c) (defs₀ (F := F)) Variants.none () Set.univ := fun t => by
  have hprog : defs₀ (F := F) .tc cfg0.body (cfg0.bodyArgs t (cfg0.slots t)) = bodyAt0 t := rfl
  rw [bigSep_W0, bigSep_W0, phi_before, phi_after, hprog]
  have hpt := point_spec V c t
  unfold Wins Own WP at hpt
  have hlast : t.val = 15 → cfg0.idle 6 (cfg0.grid.coords t) = false := fun h => by
    show (!(k0_cond3 (grid0.coords t) == 1#1)) = false
    rw [(cond3_of (grid0.coords t) ⟨t.val, lt16 t⟩ (coord0 t)).mpr h]; rfl
  have hnot : t.val ≠ 15 → cfg0.idle 6 (cfg0.grid.coords t) = true ∧ (cfg0.win 6).flush t = false := fun h => by
    constructor
    · show (!(k0_cond3 (grid0.coords t) == 1#1)) = true
      have := mt (cond3_of (grid0.coords t) ⟨t.val, lt16 t⟩ (coord0 t)).mp h
      simp [this]
    · rw [← Bool.not_eq_true, flush0_6]
      have := lt16 t
      omega
  by_cases h15 : t.val = 15
  · have hi := hlast h15
    have hi' : idle0 6 (grid0.coords t) = false := hi
    simp only [hi, hi']
    unfold Dat.owesAt Pipeline.owesWithin
    iintro ⟨⟨HI, HB⟩, ⟨%W, -, HW⟩, ⟨%d0, H0⟩, ⟨%d1, H1⟩, ⟨%d2, H2⟩, ⟨%d3, H3⟩, ⟨%d4, H4⟩, ⟨%d5, H5⟩, ⟨%d6, H6⟩⟩
    rw [before0, before1, before2, before3, before4, before5]
    have hq := hpt ((dat0 V c).before 6 t d6) W
    rw [if_pos h15] at hq
    iapply (WP_conseq c (WP_frame c (R := Beside (F := F) c) hq) .rfl ?_)
    · iintro ⟨⟨HI, ⟨%W', HW⟩, H0, H1, H2, H3, H4, H5, H6⟩, HB⟩
      isplitl [HI HB]
      · isplitl [HI]; · iexact HI
        iexact HB
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexact H6
    · isplitr [HB]
      · isplitl [HI]; · iexact HI
        isplitl [HW]; · iexact HW
        isplitl [H0]; · iexact H0
        isplitl [H1]; · iexact H1
        isplitl [H2]; · iexact H2
        isplitl [H3]; · iexact H3
        isplitl [H4]; · iexact H4
        isplitl [H5]; · iexact H5
        iexact H6
      iexact HB
  · obtain ⟨hi, hf⟩ := hnot h15
    have hi' : idle0 6 (grid0.coords t) = true := hi
    simp only [hi, hi', hf]
    unfold Dat.owesAt Pipeline.owesWithin
    iintro ⟨⟨HI, HB⟩, ⟨%W, -, HW⟩, ⟨%d0, H0⟩, ⟨%d1, H1⟩, ⟨%d2, H2⟩, ⟨%d3, H3⟩, ⟨%d4, H4⟩, ⟨%d5, H5⟩, ⟨%d6, H6⟩⟩
    rw [before0, before1, before2, before3, before4, before5]
    have hq := hpt ((dat0 V c).before 6 t d6) W
    rw [if_neg h15] at hq
    iapply (WP_conseq c (WP_frame c (R := Beside (F := F) c) hq) .rfl ?_)
    · iintro ⟨⟨HI, ⟨%W', HW⟩, H0, H1, H2, H3, H4, H5, H6⟩, HB⟩
      isplitl [HI HB]
      · isplitl [HI]; · iexact HI
        iexact HB
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      iexists d6; iexact H6
    · isplitr [HB]
      · isplitl [HI]; · iexact HI
        isplitl [HW]; · iexact HW
        isplitl [H0]; · iexact H0
        isplitl [H1]; · iexact H1
        isplitl [H2]; · iexact H2
        isplitl [H3]; · iexact H3
        isplitl [H4]; · iexact H4
        isplitl [H5]; · iexact H5
        iexact H6
      iexact HB

end Cert.KernelIdeal
-- ==== Proof.Region1.lean ====
/-
  The pooling region: its proof data over the buffers' contents at entry, the body's obligation, and the result's array afterwards.
-/
module

public import proofs.«01_k».proof.Proof.Region0

@[expose] public section

set_option maxRecDepth 65536

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl

/-- The pool's result. -/
def poolOf (c : Dev nD) : Vec F S8x10 .f32 := k1_pay1 (V c main_call0_v9) (V c main_call0_v10) (V c main_call0_v11) (V c main_call0_v12)

theorem pool_spec (c : Dev nD) (M0 : Memref sig .tc .vmem S8x16x128 .f32) (h0 : M0.IsWhole) (M1 : Memref sig .tc .vmem S1x1x128 .f32) (h1 : M1.IsWhole)
    (M2 : Memref sig .tc .vmem S128x10 .f32) (h2 : M2.IsWhole) (M3 : Memref sig .tc .vmem S1x10 .f32) (h3 : M3.IsWhole)
    (M4 : Memref sig .tc .vmem S8x10 .f32) (h4 : M4.IsWhole) (x : Vec F S8x16x128 .f32) (w : Vec F S1x1x128 .f32) (g : Vec F S128x10 .f32)
    (b : Vec F S1x10 .f32) (O : Vec F S8x10 .f32) :
    iprop(Own c M0 x ∗ Own c M1 w ∗ Own c M2 g ∗ Own c M3 b ∗ Own c M4 O) ⊢
      WP c (cc1__pool_body M0 h0 M1 h1 M2 h2 M3 h3 M4 h4)
        (fun _ => iprop(Own c M0 x ∗ Own c M1 w ∗ Own c M2 g ∗ Own c M3 b ∗ Own c M4 (k1_pay1 x w g b))) := by
  rw [cc1__pool_body_eq_skeleton]
  unfold cc1__pool_body_skel
  iintro ⟨H0, H1, H2, H3, H4⟩
  iapply (load_own c M0 (Rect.unit (s := S8x16x128) ![0, 0, 0] S8x16x128.size inb_S8x16x128_S8x16x128_0_0_0) _ _ _ _) $$ H0; iintro H0
  iapply (load_own c M1 (Rect.unit (s := S1x1x128) ![0, 0, 0] S1x1x128.size inb_S1x1x128_S1x1x128_0_0_0) _ _ _ _) $$ H1; iintro H1
  iapply (load_own c M2 (Rect.unit (s := S128x10) ![0, 0] S128x10.size inb_S128x10_S128x10_0_0) _ _ _ _) $$ H2; iintro H2
  iapply (load_own c M3 (Rect.unit (s := S1x10) ![0, 0] S1x10.size inb_S1x10_S1x10_0_0) _ _ _ _) $$ H3; iintro H3
  iapply (load_own c M4 (Rect.unit (s := S8x10) ![0, 0] S8x10.size inb_S8x10_S8x10_0_0) _ _ _ _) $$ H4; iintro H4
  rw [View.ld_unit_zero (S := S8x16x128) hz3, View.ld_unit_zero (S := S1x1x128) hz3, View.ld_unit_zero (S := S128x10) hz2, View.ld_unit_zero (S := S1x10) hz2]
  iapply (store_own c M4 hz2 _ _ _ _ _ _ _) $$ H4; iintro H4
  unfold WP
  rw [show (Prog.ret PUnit.unit).bind (fun _ => (Pure.pure PUnit.unit : P (F := F) PUnit)) = Prog.ret PUnit.unit from rfl, wp_ret]; imodintro
  isplitl [H0]; · iexact H0
  isplitl [H1]; · iexact H1
  isplitl [H2]; · iexact H2
  isplitl [H3]; · iexact H3
  iexact H4

def Phi1 (c : Dev nD) : sProp 𝕄 :=
  iprop(Pipeline.scopedRest (Ix := Unit) (Name := ℕ) (U := Pipeline.UD sig nD τ) (Lvl := ℕ) (Val := Elt F) spec1 c ∗ ∃ r, prngReg c r)

def dat1 (c : Dev nD) : Dat τ (Elt F) Unit ℕ (Pipeline.UD sig nD τ) ℕ cfg1 c where
  A w := V c (Pipeline.arrRef spec1 w)
  after w _ := match w with
    | ⟨0, _⟩ => V c main_call0_v9
    | ⟨1, _⟩ => V c main_call0_v10
    | ⟨2, _⟩ => V c main_call0_v11
    | ⟨3, _⟩ => V c main_call0_v12
    | ⟨4, _⟩ => poolOf V c
  Φ _ := Phi1 c
  q _ := fullShare
  owed _ := 0

theorem pblock0 (c : Dev nD) (t : Fin cfg1.N) : (dat1 V c).blockOf 0 t = V c main_call0_v9 := by
  funext x
  show V c main_call0_v9 _ = V c main_call0_v9 x
  refine congrArg _ (funext fun a => Fin.ext ?_)
  fin_cases a
  · show 0 * 8 + 1 * (x 0).val = (x 0).val; omega
  · show 0 * 16 + 1 * (x 1).val = (x 1).val; omega
  · show 0 * 128 + 1 * (x 2).val = (x 2).val; omega
theorem pblock1 (c : Dev nD) (t : Fin cfg1.N) : (dat1 V c).blockOf 1 t = V c main_call0_v10 := by
  funext x
  show V c main_call0_v10 _ = V c main_call0_v10 x
  refine congrArg _ (funext fun a => Fin.ext ?_)
  fin_cases a
  · show 0 * 1 + 1 * (x 0).val = (x 0).val; omega
  · show 0 * 1 + 1 * (x 1).val = (x 1).val; omega
  · show 0 * 128 + 1 * (x 2).val = (x 2).val; omega
theorem pblock2 (c : Dev nD) (t : Fin cfg1.N) : (dat1 V c).blockOf 2 t = V c main_call0_v11 := by
  funext x
  show V c main_call0_v11 _ = V c main_call0_v11 x
  refine congrArg _ (funext fun a => Fin.ext ?_)
  fin_cases a
  · show 0 * 128 + 1 * (x 0).val = (x 0).val; omega
  · show 0 * 10 + 1 * (x 1).val = (x 1).val; omega
theorem pblock3 (c : Dev nD) (t : Fin cfg1.N) : (dat1 V c).blockOf 3 t = V c main_call0_v12 := by
  funext x
  show V c main_call0_v12 _ = V c main_call0_v12 x
  refine congrArg _ (funext fun a => Fin.ext ?_)
  fin_cases a
  · show 0 * 1 + 1 * (x 0).val = (x 0).val; omega
  · show 0 * 10 + 1 * (x 1).val = (x 1).val; omega

theorem pbefore0 (c : Dev nD) (t : Fin cfg1.N) (d) : (dat1 V c).before 0 t d = V c main_call0_v9 :=
  ((dat1 V c).before_in_eq_fetched 0 rfl (fun _ => rfl) (fun _ _ _ => rfl) (fun t => (pblock0 V c t).symm) t d).trans (pblock0 V c t)
theorem pbefore1 (c : Dev nD) (t : Fin cfg1.N) (d) : (dat1 V c).before 1 t d = V c main_call0_v10 :=
  ((dat1 V c).before_in_eq_fetched 1 rfl (fun _ => rfl) (fun _ _ _ => rfl) (fun t => (pblock1 V c t).symm) t d).trans (pblock1 V c t)
theorem pbefore2 (c : Dev nD) (t : Fin cfg1.N) (d) : (dat1 V c).before 2 t d = V c main_call0_v11 :=
  ((dat1 V c).before_in_eq_fetched 2 rfl (fun _ => rfl) (fun _ _ _ => rfl) (fun t => (pblock2 V c t).symm) t d).trans (pblock2 V c t)
theorem pbefore3 (c : Dev nD) (t : Fin cfg1.N) (d) : (dat1 V c).before 3 t d = V c main_call0_v12 :=
  ((dat1 V c).before_in_eq_fetched 3 rfl (fun _ => rfl) (fun _ _ _ => rfl) (fun t => (pblock3 V c t).symm) t d).trans (pblock3 V c t)

theorem body_obligation1 (c : Dev nD) : BodyObligationLoose (dat1 V c) (defs₀ (F := F)) Variants.none () Set.univ := fun t => by
  have hprog : defs₀ (F := F) .tc cfg1.body (cfg1.bodyArgs t (cfg1.slots t)) = bodyAt1 t := rfl
  rw [bigSep_W1, bigSep_W1, hprog, show (dat1 V c).Φ t.castSucc = Phi1 c from rfl, show (dat1 V c).Φ t.succ = Phi1 c from rfl,
    show (dat1 V c).owesAt () t.succ = (dat1 V c).owesAt () t.castSucc from rfl]
  iintro ⟨HI, HW, ⟨%d0, H0⟩, ⟨%d1, H1⟩, ⟨%d2, H2⟩, ⟨%d3, H3⟩, ⟨%d4, H4⟩⟩
  rw [pbefore0, pbefore1, pbefore2, pbefore3]
  have hq := pool_spec c (st1_0 t) (hstage1_0 0) (st1_1 t) (hstage1_1 0) (st1_2 t) (hstage1_2 0) (st1_3 t) (hstage1_3 0) (st1_4 t) (hstage1_4 0)
    (V c main_call0_v9) (V c main_call0_v10) (V c main_call0_v11) (V c main_call0_v12) ((dat1 V c).before 4 t d4)
  unfold Own at hq
  iapply (WP_conseq c (WP_frame c (R := iprop(Phi1 (F := F) c ∗ (dat1 V c).owesAt () t.castSucc)) hq) .rfl ?_)
  · iintro ⟨⟨H0, H1, H2, H3, H4⟩, HI, HW⟩
    isplitl [HI]; · iexact HI
    isplitl [HW]; · iexact HW
    isplitl [H0]; · iexact H0
    isplitl [H1]; · iexact H1
    isplitl [H2]; · iexact H2
    isplitl [H3]; · iexact H3
    iexact H4
  · isplitr [HI HW]
    · isplitl [H0]; · iexact H0
      isplitl [H1]; · iexact H1
      isplitl [H2]; · iexact H2
      isplitl [H3]; · iexact H3
      iexact H4
    isplitl [HI]; · iexact HI
    iexact HW

/-- The pool's result array ends holding the pool's result. -/
theorem final1 (c : Dev nD) : (dat1 V c).arrAt 4 cfg1.N = poolOf V c :=
  (dat1 V c).arrAt_eq_of_cover 4 (poolOf V c) (fun t _ => by
    have hz' : (fun a => win1_4.index t a * main_v0.ty.shape.size a) = fun _ => 0 := funext fun a => by fin_cases a <;> rfl
    exact (Memref.read_access_unit_zero (Elt F) main_v0 hz' (fun a => by rw [congrFun hz' a]; simp) (poolOf V c)).symm) fun i =>
    ⟨t1_0, (flush1_4 t1_0), by
      show i ∈ ((View.whole main_v0).slice (win1_4.rect t1_0)).set
      rw [View.set_slice_whole, Rect.mem_set_unit]
      intro a
      have h0 : (i 0 : Nat) < 8 := (i 0).isLt
      have h1 : (i 1 : Nat) < 10 := (i 1).isLt
      match a with
      | ⟨0, _⟩ => show 0 * 8 ≤ (i 0 : Nat) ∧ (i 0 : Nat) < 0 * 8 + 8; omega
      | ⟨1, _⟩ => show 0 * 10 ≤ (i 1 : Nat) ∧ (i 1 : Nat) < 0 * 10 + 10; omega⟩

/-- The recurrence's result array ends holding its result. -/
theorem final0 (c : Dev nD) : (dat0 V c).arrAt 6 cfg0.N = outOf (insOf V c) :=
  (dat0 V c).arrAt_eq_of_cover 6 (outOf (insOf V c)) (fun t _ => by
    have hz' : (fun a => win0_6.index t a * main_call0_v8.ty.shape.size a) = fun _ => 0 := funext fun a => by fin_cases a <;> rfl
    exact (Memref.read_access_unit_zero (Elt F) main_call0_v8 hz' (fun a => by rw [congrFun hz' a]; simp) (outOf (insOf V c))).symm) fun i =>
    ⟨t0_15, by first | exact flush0_6 t0_15 | exact (flush0_6 t0_15).mpr rfl, by
      show i ∈ ((View.whole main_call0_v8).slice (win0_6.rect t0_15)).set
      rw [View.set_slice_whole, Rect.mem_set_unit]
      intro a
      have h0 : (i 0 : Nat) < 128 := (i 0).isLt
      have h1 : (i 1 : Nat) < 128 := (i 1).isLt
      match a with
      | ⟨0, _⟩ => show 0 * 128 ≤ (i 0 : Nat) ∧ (i 0 : Nat) < 0 * 128 + 128; omega
      | ⟨1, _⟩ => show 0 * 128 ≤ (i 1 : Nat) ∧ (i 1 : Nat) < 0 * 128 + 128; omega⟩

end Cert.KernelIdeal
-- ==== Proof.Run.lean ====
/-
  The run of @main: two host stretches and two regions in turn, the buffers' contents after each a pure term; every final state
  holds the last of them and every semaphore counter at zero.
-/
module

public import proofs.«01_k».proof.Proof.Region1
public import proofs.«01_k».proof.Proof.Gen.KernelIdeal.Regions
public import Idealize.ShloMosaic.Lib.Pipeline.RegionArraysD
public import Idealize.ShloMosaic.Lib.Pipeline.RegionArraysS

@[expose] public section

set_option maxRecDepth 65536

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! ## The contents after each item -/

/-- A valuation read at the TensorCore's references. -/
abbrev at' (W : Dev nD → Valuation τ sig (Elt F)) (c : Dev nD) (b : Ref sig .tc) : Buf (Elt F) ((c : Thread nD τ).loc b) := W c (Proc.devRef .tc b)

/-- After the first host stretch. -/
def A1 (c : Dev nD) : Valuation τ sig (Elt F) := StableHlo.after hostOps0 (V0 m c)
/-- After the recurrence. -/
def A2 (c : Dev nD) : Valuation τ sig (Elt F) := Pipeline.afterRegion (dat0 (at' (A1 m)) c) (A1 m c)
/-- After the second host stretch. -/
def A3 (c : Dev nD) : Valuation τ sig (Elt F) := StableHlo.after hostOps1 (A2 m c)
/-- After the pool. -/
def A4 (c : Dev nD) : Valuation τ sig (Elt F) := Pipeline.afterRegion (dat1 (at' (A3 m)) c) (A3 m c)

def pdats : (p : Fin 2) → (c : Dev nD) → Dat τ (Elt F) Unit ℕ (Pipeline.UD sig nD τ) ℕ (cfgs p) c
  | ⟨0, _⟩, c => dat0 (at' (A1 m)) c
  | ⟨1, _⟩, c => dat1 (at' (A3 m)) c

/-! ## The waits' levels, and what rides along -/

/-- Every TensorCore semaphore at the one level. -/
def lvS : GSem nD τ sig → Finset Unit := fun g => if g.1.2 = .tc then {()} else ∅
def lv0 : GSem nD τ sig → Unit → ℕ := fun _ _ => 0
theorem lvS_off (g : GSem nD τ sig) (h : g.1.2 ≠ .tc) : lvS g = ∅ := if_neg h

/-- The generator's register and nothing owed. -/
def Aside (c : Dev nD) : sProp 𝕄 := iprop((∃ r, prngReg c r) ∗ ∃ Wd, owes (c : Thread nD τ) (0 : CellTallies nD τ sig Unit) Wd)

/-! ## The recurrence's record -/

def osem0 : Fin 2 → SemLoc sig := fun j => (![SemLoc.dma 7, SemLoc.dma 8] : Fin 2 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semAt 0)) 0 ∗ semVal ((c : Thread nD τ), SemLoc.dma (semAt 1)) 0) := by
  rw [Pipeline.ownSems0_eq_of_list c osem0 [0, 1] (by decide) (by decide)]
  have h0 : osem0 0 = SemLoc.dma (semAt 0) := by decide +kernel
  have h1 : osem0 1 = SemLoc.dma (semAt 1) := by decide +kernel
  rw [← h0, ← h1]; rfl

theorem slots_disj : Disjoint (slotSet 0) (slotSet 1) := by
  rw [Finset.disjoint_left]
  intro i h0 h1
  rw [mem_slotSet] at h0 h1
  exact absurd (show (0 : Fin 2) = 1 from h0.symm.trans h1) (by decide)
theorem slots_cover : slotSet 0 ∪ slotSet 1 = Finset.univ := by
  ext i
  rw [Finset.mem_union, mem_slotSet, mem_slotSet]
  refine ⟨fun _ => Finset.mem_univ _, fun _ => ?_⟩
  have h : (i 0 : Nat) < 2 := (i 0).isLt
  rcases Nat.lt_or_ge (i 0).val 1 with h' | h'
  · exact .inl (Fin.ext (by show (i 0).val = 0; omega))
  · exact .inr (Fin.ext (by show (i 0).val = 1; omega))

theorem buf_split (c : Dev nD) (g : Buf (Elt F) ((c : Thread nD τ).loc cc0_scratch0)) :
    ((c : Thread nD τ).loc cc0_scratch0 ↦{fullShare} g : sProp 𝕄)
      ⊢ iprop(((c : Thread nD τ).loc cc0_scratch0 ↦[slotSet 0]{fullShare} g) ∗ ((c : Thread nD τ).loc cc0_scratch0 ↦[slotSet 1]{fullShare} g)) := by
  rw [← slots_cover]; exact (pointsTo_union slots_disj).1
theorem buf_join (c : Dev nD) (g g' : Buf (Elt F) ((c : Thread nD τ).loc cc0_scratch0)) :
    iprop(((c : Thread nD τ).loc cc0_scratch0 ↦[slotSet 0]{fullShare} g) ∗ ((c : Thread nD τ).loc cc0_scratch0 ↦[slotSet 1]{fullShare} g'))
      ⊢ (iprop(∃ f, (c : Thread nD τ).loc cc0_scratch0 ↦{fullShare} f) : sProp 𝕄) := by
  refine (pointsTo_join slots_disj).trans ?_
  rw [slots_cover]
  iintro H; iexists _; iexact H

/-- What the region holds of its own at each end, as the launch spells it. -/
theorem idle_in (c : Dev nD) (V : (c : Dev nD) → (b : Ref sig .tc) → Buf (Elt F) ((c : Thread nD τ).loc b)) :
    iprop(Pipeline.scopedRest (Ix := Unit) (Name := ℕ) (U := Pipeline.UD sig nD τ) (Lvl := ℕ) (Val := Elt F) spec0 c ∗ (∃ r, prngReg c r)
        ∗ Pipeline.ownSems0 (Ix := Unit) (Name := ℕ) (U := Pipeline.UD sig nD τ) (Lvl := ℕ) (Val := Elt F) (τ := τ) osem0 c
        ∗ ((c : Thread nD τ).loc main_call0_v0 ↦{fullShare} V c main_call0_v0))
      ⊢ (iprop(Idle c (insOf V c) ∗ Beside (F := F) c) : sProp 𝕄) := by
  rw [scopedRest0_eq, ownSems0_eq]
  iintro ⟨⟨⟨%g0, H0⟩, ⟨%g1, H1⟩, ⟨%g2, H2⟩, ⟨%g3, H3⟩, ⟨%g4, H4⟩, ⟨%g5, H5⟩, HB0, HB1, HB2, HB3, HB4⟩, Hp, ⟨Hs0, Hs1⟩, HX⟩
  ihave H0' := (buf_split c g0) $$ H0
  icases H0' with ⟨Ha, Hb⟩
  ihave HX' := (pointsTo_share fullShare.mem_left_op_right).1 $$ HX
  icases HX' with ⟨Hx, Hy⟩
  unfold Idle Rest Sc Holds Own Beside
  isplitr [HB0 HB1 HB2 HB3 HB4 Hp]
  · isplitl [Ha Hs0 Hx]
    · iexists g0
      isplitl [Ha]; · iexact Ha
      isplitl [Hs0]; · iexact Hs0
      iexact Hx
    isplitl [Hb Hs1 Hy]
    · iexists g0
      isplitl [Hb]; · iexact Hb
      isplitl [Hs1]; · iexact Hs1
      iexact Hy
    iexists (⟨g2, g3, g4, g5⟩ : St F)
    rw [owns_whole, owns_whole, owns_whole, owns_whole]
    isplitr [H1]
    · isplitl [H2]; · iexact H2
      isplitl [H3]; · iexact H3
      isplitl [H4]; · iexact H4
      iexact H5
    iexists g1
    rw [owns_whole]
    iexact H1
  isplitl [HB0]; · iexact HB0
  isplitl [HB1]; · iexact HB1
  isplitl [HB2]; · iexact HB2
  isplitl [HB3]; · iexact HB3
  isplitl [HB4]; · iexact HB4
  iexact Hp

theorem idle_out (c : Dev nD) (V : (c : Dev nD) → (b : Ref sig .tc) → Buf (Elt F) ((c : Thread nD τ).loc b)) :
    (iprop(Idle c (insOf V c) ∗ Beside (F := F) c) : sProp 𝕄)
      ⊢ iprop(Pipeline.scopedRest (Ix := Unit) (Name := ℕ) (U := Pipeline.UD sig nD τ) (Lvl := ℕ) (Val := Elt F) spec0 c ∗ (∃ r, prngReg c r)
        ∗ Pipeline.ownSems0 (Ix := Unit) (Name := ℕ) (U := Pipeline.UD sig nD τ) (Lvl := ℕ) (Val := Elt F) (τ := τ) osem0 c
        ∗ ((c : Thread nD τ).loc main_call0_v0 ↦{fullShare} V c main_call0_v0)) := by
  rw [scopedRest0_eq, ownSems0_eq]
  unfold Idle Rest Sc Holds Own Beside
  simp only [owns_whole]
  iintro ⟨⟨⟨%g0, Ha, Hs0, Hx⟩, ⟨%g1, Hb, Hs1, Hy⟩, ⟨%σ, ⟨H2, H3, H4, H5⟩, ⟨%G, H1⟩⟩⟩, HB0, HB1, HB2, HB3, HB4, Hp⟩
  isplitr [Hp Hs0 Hs1 Hx Hy]
  · isplitl [Ha Hb]
    · iapply (buf_join c g0 g1)
      isplitl [Ha]; · iexact Ha
      iexact Hb
    isplitl [H1]; · iexists _; iexact H1
    isplitl [H2]; · iexists _; iexact H2
    isplitl [H3]; · iexists _; iexact H3
    isplitl [H4]; · iexists _; iexact H4
    isplitl [H5]; · iexists _; iexact H5
    isplitl [HB0]; · iexact HB0
    isplitl [HB1]; · iexact HB1
    isplitl [HB2]; · iexact HB2
    isplitl [HB3]; · iexact HB3
    iexact HB4
  isplitl [Hp]; · iexact Hp
  isplitl [Hs0 Hs1]
  · isplitl [Hs0]; · iexact Hs0
    iexact Hs1
  iapply (pointsTo_share fullShare.mem_left_op_right).2
  isplitl [Hx]; · iexact Hx
  iexact Hy

theorem only0 {A : Ref sig .tc → sProp 𝕄} : bigSep ({main_call0_v0} : Finset (Ref sig .tc)) A = A main_call0_v0 := bigSep_singleton

/-- The unscoped buffers that are no array of the recurrence. -/
def besides : Finset (DevRef τ sig) := Pipeline.ucRefs τ sig \ Pipeline.arrRefs spec0

/-- Nothing owed leaves every wait free. -/
theorem waits_free (c : Dev nD) : (levAts lvS lv0 : sProp 𝕄) ⊢ Transfers.MayWaits (c : Thread nD τ) (default : Unit) 0 := by
  iintro -
  iapply (Transfers.MayWaits.zero (c : Thread nD τ) (default : Unit))
  iempintro

theorem cut (p : Fin 2) : Pipeline.LevelCut (pcfgs (F := F)) adm () lvS lv0 p (fun _ : Dev nD => (0 : CellTallies nD τ sig Unit)) (fun _ => 0) where
  hι c w s := by unfold lvS; rw [if_pos rfl]; exact Finset.mem_singleton_self _
  hιb _ _ _ := le_rfl
  hD c g i h := absurd h (by simp)

def rec0 : RegionSeg (pcfgs (F := F)) adm (pdats m) () defs₀ Variants.none lvS lv0 0 :=
  RegionSeg.ofHeldDH (pcfgs (F := F)) adm (pdats m) () defs₀ Variants.none lvS lv0 0 (fun _ => 0) default osem0 ownSemFacts0
    {main_call0_v0} besides (by decide) launch0.toP rfl (fun c => body_obligation0 (at' (A1 m)) c) (fun _ _ => rfl) (fun _ => rfl)
    (fun c => (dat0 (at' (A1 m)) c).share_full fun _ => rfl) (fun c => waits_free c) (A1 m) (A2 m)
    (fun c => by
      rw [only0]
      refine BI.BIBase.Entails.trans ?_ (idle_in c (at' (A1 m)))
      iintro ⟨H1, H2, H3, H4, -⟩
      isplitl [H1]; · iexact H1
      isplitl [H2]; · iexact H2
      isplitl [H3]; · iexact H3
      iexact H4)
    (fun c => by
      rw [only0]
      exact idle_out c (at' (A1 m)))
    (fun _ => 0) (cut 0) (fun _ => iprop(emp)) (fun _ _ => rfl)
    (fun c w => (Pipeline.afterRegion_arr (dat0 (at' (A1 m)) c) (A1 m c) winFacts0.arr_inj w).symm)

theorem arrs_sub0 : Pipeline.arrRefs spec0 ⊆ Pipeline.ucRefs τ sig := by decide
theorem arrs_sub1 : Pipeline.arrRefs spec1 ⊆ Pipeline.ucRefs τ sig := by decide

/-- The recurrence's record between the thread's states. -/
def reg0 : RegionSeg (pcfgs (F := F)) adm (pdats m) () defs₀ Variants.none lvS lv0 0 :=
  (rec0 m).conseq
    (fun c => iprop(StableHlo.held (c : Thread nD τ) (Pipeline.ucRefs τ sig) (A1 m c) ∗ Aside (F := F) c))
    (fun c => iprop(StableHlo.held (c : Thread nD τ) (Pipeline.ucRefs τ sig) (A2 m c) ∗ Aside (F := F) c))
    (fun c => by
      show _ ⊢ iprop(StableHlo.held (c : Thread nD τ) (Pipeline.arrRefs spec0) (A1 m c) ∗ (∃ r, prngReg c r)
        ∗ (StableHlo.held (c : Thread nD τ) besides (A1 m c) ∗ BI.emp) ∗ ∃ Wd, owes (c : Thread nD τ) (0 : CellTallies nD τ sig Unit) Wd)
      unfold Aside
      rw [StableHlo.held_sub_split (c : Thread nD τ) arrs_sub0 (A1 m c)]
      iintro ⟨⟨Ha, Hu⟩, Hp, HO⟩
      isplitl [Ha]; · iexact Ha
      isplitl [Hp]; · iexact Hp
      isplitl [Hu]
      · isplitl [Hu]; · iexact Hu
        iempintro
      iexact HO)
    (fun c => by
      show iprop(StableHlo.held (c : Thread nD τ) (Pipeline.arrRefs spec0) (A2 m c) ∗ (∃ r, prngReg c r)
        ∗ (StableHlo.held (c : Thread nD τ) besides (A1 m c) ∗ BI.emp) ∗ ∃ Wd, owes (c : Thread nD τ) (0 : CellTallies nD τ sig Unit) Wd) ⊢ _
      unfold Aside
      rw [StableHlo.held_sub_split (c : Thread nD τ) arrs_sub0 (A2 m c),
        StableHlo.held_congr (c : Thread nD τ) (S := Pipeline.ucRefs τ sig \ Pipeline.arrRefs spec0) (V := A2 m c) (V' := A1 m c)
          (Pipeline.afterRegion_off (dat0 (at' (A1 m)) c) (A1 m c) _)]
      iintro ⟨Ha, Hp, ⟨Hu, -⟩, HO⟩
      isplitl [Ha Hu]
      · isplitl [Ha]; · iexact Ha
        iexact Hu
      isplitl [Hp]; · iexact Hp
      iexact HO)

/-! ## The pool's record -/

def rec1 : RegionSeg (pcfgs (F := F)) adm (pdats m) () defs₀ Variants.none lvS lv0 1 :=
  RegionSeg.ofHeldIn (pcfgs (F := F)) adm (pdats m) () defs₀ Variants.none lvS lv0 1 (fun _ => 0) (Pipeline.ucRefs τ sig)
    (fun c => iprop(∃ r, prngReg c r)) (fun c => iprop(∃ r, prngReg c r)) launch1.toP rfl (fun c => body_obligation1 (at' (A3 m)) c)
    (fun _ _ => rfl) (fun _ => rfl) (fun c => (dat1 (at' (A3 m)) c).share_full fun _ => rfl)
    (fun c => BI.BIBase.Entails.rfl) (fun c => BI.BIBase.Entails.rfl) (fun _ => 0) (cut 1) (fun _ => iprop(emp)) (A3 m) (fun _ _ => rfl)

def reg1 : RegionSeg (pcfgs (F := F)) adm (pdats m) () defs₀ Variants.none lvS lv0 1 :=
  (rec1 m).conseq
    (fun c => iprop(StableHlo.held (c : Thread nD τ) (Pipeline.ucRefs τ sig) (A3 m c) ∗ Aside (F := F) c))
    (fun c => iprop(StableHlo.held (c : Thread nD τ) (Pipeline.ucRefs τ sig) (A4 m c) ∗ Aside (F := F) c))
    (fun c => by
      show _ ⊢ iprop(StableHlo.held (c : Thread nD τ) (Pipeline.arrRefs spec1) (A3 m c) ∗ (∃ r, prngReg c r)
        ∗ (StableHlo.held (c : Thread nD τ) (Pipeline.ucRefs τ sig \ Pipeline.arrRefs spec1) (A3 m c) ∗ BI.emp)
        ∗ ∃ Wd, owes (c : Thread nD τ) (0 : CellTallies nD τ sig Unit) Wd)
      unfold Aside
      rw [StableHlo.held_sub_split (c : Thread nD τ) arrs_sub1 (A3 m c)]
      iintro ⟨⟨Ha, Hu⟩, Hp, HO⟩
      isplitl [Ha]; · iexact Ha
      isplitl [Hp]; · iexact Hp
      isplitl [Hu]
      · isplitl [Hu]; · iexact Hu
        iempintro
      iexact HO)
    (fun c => by
      show iprop(StableHlo.held (c : Thread nD τ) (Pipeline.arrRefs spec1) (A4 m c) ∗ (∃ r, prngReg c r)
        ∗ (StableHlo.held (c : Thread nD τ) (Pipeline.ucRefs τ sig \ Pipeline.arrRefs spec1) (A3 m c) ∗ BI.emp)
        ∗ ∃ Wd, owes (c : Thread nD τ) (0 : CellTallies nD τ sig Unit) Wd) ⊢ _
      unfold Aside
      rw [StableHlo.held_sub_split (c : Thread nD τ) arrs_sub1 (A4 m c),
        StableHlo.held_congr (c : Thread nD τ) (S := Pipeline.ucRefs τ sig \ Pipeline.arrRefs spec1) (V := A4 m c) (V' := A3 m c)
          (Pipeline.afterRegion_off (dat1 (at' (A3 m)) c) (A3 m c) _)]
      iintro ⟨Ha, Hp, ⟨Hu, -⟩, HO⟩
      isplitl [Ha Hu]
      · isplitl [Ha]; · iexact Ha
        iexact Hu
      isplitl [Hp]; · iexact Hp
      iexact HO)

/-! ## The whole run -/

def host0 : HostSeg (Ix := Unit) (Name := ℕ) (U := Pipeline.UD sig nD τ) (Lvl := ℕ) (pcfgs (F := F)) defs₀ Variants.none lvS lv0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (Aside (F := F))
def host1 : HostSeg (Ix := Unit) (Name := ℕ) (U := Pipeline.UD sig nD τ) (Lvl := ℕ) (pcfgs (F := F)) defs₀ Variants.none lvS lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (A2 m) (Aside (F := F))

def items (c : Dev nD) : List (Seg (pcfgs (F := F)) adm (pdats m) () defs₀ Variants.none lvS lv0) :=
  [.host (host0 m), .region (reg0 m), .host (host1 m), .region (reg1 m)]

set_option backward.isDefEq.respectTransparency.types false in
/-- Every final state holds the last contents, and no counter is raised. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = A4 m c b) ∧ r.2.sem = fun _ => 0) := by
  refine Pipeline.θ_run_regions_kit_dev_sems (pcfgs (F := F)) adm (pdats m) () cellOf_inj embL defs₀ Variants.none lvS lv0 m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [items, Seg.pipes_host, Seg.pipes_region, Seg.pipes_nil]; decide) 0 lvS_off (fun _ => iprop(emp))
    (initOf (Pipeline.cells cfgs cellOf_inj) (Pipeline.launchToks cfgs cellOf_inj), 1) ?_
    (T₀ := fun c => iprop(StableHlo.held (c : Thread nD τ) (Pipeline.ucRefs τ sig) (V0 m c) ∗ Aside (F := F) c))
    (Tₙ := fun c => StableHlo.held (c : Thread nD τ) (Pipeline.ucRefs τ sig) (A4 m c))
    (hch := fun c => ⟨.rfl, .rfl, .rfl, .rfl, ?_⟩)
    (hinit := ?_) (QY := fun c s => ∀ b ∈ Pipeline.ucRefs τ sig, s.mem ((c : Thread nD τ).1, b) = A4 m c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (A4 m c) ∗ Aside (F := F) c) ⊢ _
    unfold Aside
    iintro ⟨Hu, -, HO⟩
    isplitl [Hu]; · iexact Hu
    iexact HO
  · refine Pipeline.initEach lvS lv0 fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := Pipeline.UD sig nD τ) (Lvl := ℕ) c (V0 m c)]
    unfold Aside
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (Pipeline.ucRefs τ sig) (fun b => ((c : Thread nD τ).1, b)) (A4 m c) s') $$ [Hh HSI]
    · isplitl [Hh] <;> iassumption
    imodintro; iexact Hr

end Cert.KernelIdeal
-- ==== Proof.Results.lean ====
/-
  What the last contents are at the arguments and at the result.
-/
module

public import proofs.«01_k».proof.Proof.Run

@[expose] public section

set_option maxRecDepth 65536

noncomputable section

namespace Cert.KernelIdeal

open Cert.KernelIdeal.Gen
open Idealize.ShloMosaic Idealize.ShloMosaic.TcCoe
open Idealize.SL.Sem

variable {F : FTy → Type} [FloatOps F]

variable (m : (ℓ : Loc nD τ sig) → Buf (Elt F) ℓ) (c : Dev nD)

theorem A1_keeps (r : Ref sig .tc) (h : r ∉ hostOps0_W) : A1 m c r = m ((c : Thread nD τ).loc r) := V1_of m c r h
theorem A2_keeps (r : Ref sig .tc) (h : ∀ w, r ≠ Pipeline.arrRef spec0 w) : A2 m c r = A1 m c r :=
  Pipeline.afterRegion_of_not_arr (dat0 (at' (A1 m)) c) (A1 m c) h
theorem A3_keeps (r : Ref sig .tc) (h : r ∉ hostOps1_W) : A3 m c r = A2 m c r := StableHlo.after_of_writes_sub hostOps1 _ hostOps1_writes h
theorem A4_keeps (r : Ref sig .tc) (h : ∀ w, r ≠ Pipeline.arrRef spec1 w) : A4 m c r = A3 m c r :=
  Pipeline.afterRegion_of_not_arr (dat1 (at' (A3 m)) c) (A3 m c) h

/-- What no item touches ends as launched. -/
theorem kept (r : Ref sig .tc) (h0 : r ∉ hostOps0_W) (h1 : ∀ w, r ≠ Pipeline.arrRef spec0 w) (h2 : r ∉ hostOps1_W) (h3 : ∀ w, r ≠ Pipeline.arrRef spec1 w) :
    A4 m c r = m ((c : Thread nD τ).loc r) :=
  (A4_keeps m c r h3).trans ((A3_keeps m c r h2).trans ((A2_keeps m c r h1).trans (A1_keeps m c r h0)))

theorem A4_result : A4 m c main_v0 = poolOf (at' (A3 m)) c :=
  (Pipeline.afterRegion_arr (dat1 (at' (A3 m)) c) (A3 m c) winFacts1.arr_inj 4).trans (final1 (at' (A3 m)) c)
theorem A2_result : A2 m c main_call0_v8 = outOf (insOf (at' (A1 m)) c) :=
  (Pipeline.afterRegion_arr (dat0 (at' (A1 m)) c) (A1 m c) winFacts0.arr_inj 6).trans (final0 (at' (A1 m)) c)

/-- A reference no scope opens is read at the end of the run. -/
theorem read_ref {s : MemSt nD τ sig (Elt F)} (h : ∀ b ∈ Pipeline.ucRefs τ sig, s.mem ((c : Thread nD τ).1, b) = A4 m c b) (r : Ref sig .tc)
    (hr : r.isScoped = false) : s.mem ((c : Thread nD τ).loc r) = A4 m c r :=
  h (Proc.devRef .tc r) (Pipeline.devRef_mem_ucRefs hr)

/-- The arguments end as launched. -/
theorem args_kept {s : MemSt nD τ sig (Elt F)} (h : ∀ b ∈ Pipeline.ucRefs τ sig, s.mem ((c : Thread nD τ).1, b) = A4 m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) := by
  have k : ∀ r : Ref sig .tc, r.isScoped = false → r ∉ hostOps0_W → (∀ w, r ≠ Pipeline.arrRef spec0 w) → r ∉ hostOps1_W → (∀ w, r ≠ Pipeline.arrRef spec1 w) →
      s.mem ((c : Thread nD τ).loc r) = m ((c : Thread nD τ).loc r) := fun r hr h0 h1 h2 h3 => (read_ref m c h r hr).trans (kept m c r h0 h1 h2 h3)
  refine ⟨?_, ?_, ?_, ?_, ?_, ?_, ?_, ?_, ?_, ?_, ?_, ?_⟩ <;> exact k _ (by decide) (by decide) (by decide) (by decide) (by decide)

end Cert.KernelIdeal
-- ==== Proof.Reference.lean ====
module

public import proofs.«01_k».proof.Proof.Gen.ReferenceIdeal.Run
public import proofs.«01_k».proof.Proof.Gen.ReferenceIdeal.Step

@[expose] public section

noncomputable section

/-! The reference's run, restated over the step of one time step: the recurrence's 512 steps are 512 applications of
    `Step.step`, and the result is a function of the last state and the arguments. -/

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers the loop carries hold the state `s`, and its counter the number `j`. -/
structure Carries (V : Valuation τ sig (Elt F)) (s : State F) (j : ℕ) : Prop where
  xs : V (Proc.devRef .tc main_v5_0) = s.main_v5_0
  wih : V (Proc.devRef .tc main_v5_1) = s.main_v5_1
  whh : V (Proc.devRef .tc main_v5_2) = s.main_v5_2
  bih : V (Proc.devRef .tc main_v5_3) = s.main_v5_3
  bhh : V (Proc.devRef .tc main_v5_4) = s.main_v5_4
  num : V (Proc.devRef .tc main_v5_5) = constantI S_ 32 (BitVec.ofNat 32 j)
  h : V (Proc.devRef .tc main_v5_6) = s.main_v5_6
  c : V (Proc.devRef .tc main_v5_7) = s.main_v5_7
  hs : V (Proc.devRef .tc main_v5_8) = s.main_v5_8

variable {V : Valuation τ sig (Elt F)} {s : State F} {j : ℕ}

set_option maxRecDepth 8192 in
/-- The four gates before their activations. -/
theorem gates (h : Carries V s j) : res_main_while0b_v78 V = Step.b14 j s := by
  unfold res_main_while0b_v78
  rw [h.xs, h.wih, h.whh, h.bih, h.bhh, h.num, h.h]
  rfl

set_option maxRecDepth 8192 in
/-- The new cell. -/
theorem cell (h : Carries V s j) : res_main_while0b_v104 V = Step.b46 j s := by
  unfold res_main_while0b_v104
  rw [gates h, h.c]
  rfl

set_option maxRecDepth 8192 in
/-- The new hidden vector. -/
theorem hidden (h : Carries V s j) : res_main_while0b_v106 V = Step.b48 j s := by
  unfold res_main_while0b_v106
  rw [gates h, cell h]
  rfl

set_option maxRecDepth 8192 in
/-- The hidden vectors so far, with the new one written at its place. -/
theorem hiddens (h : Carries V s j) : step_main_v5_8 V = Step.b52 j s := by
  unfold step_main_v5_8
  rw [hidden h, h.num, h.hs]
  rfl

/-- The counter goes to the next number. -/
theorem number (h : Carries V s j) : step_main_v5_5 V = constantI S_ 32 (BitVec.ofNat 32 (j + 1)) := by
  unfold step_main_v5_5
  rw [h.num]
  funext i
  show BitVec.ofNat 32 j + 1#32 = BitVec.ofNat 32 (j + 1)
  simp only [BitVec.ofNat_add]

/-- One trip round the loop is one step of the state. -/
theorem carries_step (h : Carries V s j) : Carries (STEP V) (step j s) (j + 1) where
  xs := (STEP_main_v5_0 V).trans h.xs
  wih := (STEP_main_v5_1 V).trans h.wih
  whh := (STEP_main_v5_2 V).trans h.whh
  bih := (STEP_main_v5_3 V).trans h.bih
  bhh := (STEP_main_v5_4 V).trans h.bhh
  num := (STEP_main_v5_5 V).trans (number h)
  h := (STEP_main_v5_6 V).trans (hidden h)
  c := (STEP_main_v5_7 V).trans (cell h)
  hs := (STEP_main_v5_8 V).trans (hiddens h)

variable (m : (ℓ : Loc nD τ sig) → Buf (Elt F) ℓ) (c : Dev nD)

/-- The argument `r` at the start of the run. -/
abbrev arg (r : Ref sig .tc) : Buf (Elt F) ((c.tc : Thread nD τ).loc r) := m ((c.tc : Thread nD τ).loc r)

/-- The state before the first time step. -/
def start : State F := init (arg m c main_arg2) (arg m c main_arg3) (arg m c main_arg4) (arg m c main_arg5) (arg m c main_arg0)

/-- The state before time step `n`. -/
def trip : ℕ → State F
  | 0 => start m c
  | n + 1 => step n (trip n)

set_option maxRecDepth 65536 in
set_option maxHeartbeats 800000 in
theorem carries_start : Carries (entryContents preI m c) (start m c) 0 := by
  constructor <;> (simp only [entryContents, afterL_cons, afterL_nil]; after_reads_simp) <;> rfl

theorem carries_trip : ∀ n, Carries (STEP^[n] (entryContents preI m c)) (trip m c n) n
  | 0 => carries_start m c
  | n + 1 => by rw [Function.iterate_succ_apply']; exact carries_step (carries_trip n)

/-- The result: what the operations after the loop make of the last state and the arguments. -/
def result : Buf (Elt F) ((c.tc : Thread nD τ).loc main_v66) :=
  Step.R_main_v66 (trip m c 512) (arg m c main_arg1) (arg m c main_arg6) (arg m c main_arg7) (arg m c main_arg8) (arg m c main_arg9)
    (arg m c main_arg10) (arg m c main_arg11)

set_option maxRecDepth 8192 in
theorem out_eq : out_main_v66 (STEP^[512] (entryContents preI m c)) = result m c := by
  unfold out_main_v66
  rw [(carries_trip m c 512).hs, iter_main_arg1 m c 512, iter_main_arg6 m c 512, iter_main_arg7 m c 512, iter_main_arg8 m c 512,
    iter_main_arg9 m c 512, iter_main_arg10 m c 512, iter_main_arg11 m c 512]
  rfl

end Cert.ReferenceIdeal.Trips

end
-- ==== Proof.Frames.lean ====
/-
  The frames: each program runs to its end, leaves its arguments as they were and its semaphores at zero.
-/
module

public import proofs.«01_k».proof.Defs
public import proofs.«01_k».proof.Proof.Results
public import proofs.«01_k».proof.Proof.Kernel.Results
public import proofs.«01_k».proof.Proof.Reference
public import Idealize.ShloMosaic.Lib.Quiescent

@[expose] public section

noncomputable section

namespace Cert.Proof

open Idealize.ShloMosaic Idealize.SL.Sem

theorem frame_kernel : Cert.quiescent_Kernel := fun m ρ _ =>
  (θ_run Cert.Kernel.defs _ _).mono (fun _ h => ⟨fun c => Cert.Kernel.args_kept m c (h.1 c), h.2⟩) (Cert.Kernel.run_all (F := Bits) m ρ)

theorem frame_ideal : Cert.quiescent_KernelIdeal := fun m ρ _ =>
  (θ_run Cert.KernelIdeal.defs _ _).mono (fun _ h => ⟨fun c => Cert.KernelIdeal.args_kept m c (h.1 c), h.2⟩)
    (Cert.KernelIdeal.run_all m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.Proof

end
-- ==== Proof.Scalar.lean ====
/-
  Facts about extended reals: the two ways of writing the logistic function, the range of the cell, and a softmax average with and
  without the largest score taken off.
-/
module

public import Idealize.ShloMosaic.Lib.Pointwise.Tactic

@[expose] public section

noncomputable section

namespace Cert.Scalars

open Idealize.ShloMosaic

/-- The pattern of one half denotes one half. -/
theorem half_bits : Ideal.ofBits .f32 0x3F000000#32 = ((1 / 2 : ℝ) : EReal) := by
  simp [Ideal.ofBits, Ideal.ieee, -EReal.coe_mul]; norm_num

theorem neg_inf_bits : Ideal.ofBits .f32 0xFF800000#32 = (⊥ : EReal) := by
  show Ideal.ieee 8 23 (0xFF800000#32 : BitVec 32) = ⊥
  unfold Ideal.ieee
  dsimp only
  rw [if_pos (by decide), if_pos (by decide), if_pos (by decide)]

theorem inf_bits : Ideal.ofBits .f32 0x7F800000#32 = (⊤ : EReal) := by
  show Ideal.ieee 8 23 (0x7F800000#32 : BitVec 32) = ⊤
  unfold Ideal.ieee
  dsimp only
  rw [if_pos (by decide), if_pos (by decide), if_neg (by decide)]

/-- The logistic function as the kernel writes it. -/
def lgs (x : EReal) : EReal := ((1 / 2 : ℝ) : EReal) * Ideal.tanh (((1 / 2 : ℝ) : EReal) * x) + ((1 / 2 : ℝ) : EReal)

theorem real_logistic (r : ℝ) : 1 / 2 * Real.tanh (1 / 2 * r) + 1 / 2 = 1 / (1 + Real.exp (-r)) := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = u at *
  generalize Real.exp (-(1 / 2 * r)) = v at *
  have : u = 1 / v := by field_simp; linarith
  subst this
  field_simp
  ring

theorem lgs_coe (r : ℝ) : lgs (r : EReal) = ((1 / (1 + Real.exp (-r)) : ℝ) : EReal) := by
  unfold lgs
  rw [← real_logistic, ← EReal.coe_mul]
  show ((1 / 2 : ℝ) : EReal) * ((Real.tanh (1 / 2 * r) : ℝ) : EReal) + ((1 / 2 : ℝ) : EReal) = _
  rw [← EReal.coe_mul, ← EReal.coe_add]

theorem lgs_top : lgs ⊤ = 1 := by
  unfold lgs
  rw [EReal.coe_mul_top_of_pos (by norm_num)]
  show ((1 / 2 : ℝ) : EReal) * 1 + ((1 / 2 : ℝ) : EReal) = 1
  rw [mul_one, ← EReal.coe_add]; norm_num

theorem lgs_bot : lgs ⊥ = 0 := by
  unfold lgs
  rw [EReal.coe_mul_bot_of_pos (by norm_num)]
  show ((1 / 2 : ℝ) : EReal) * (-1) + ((1 / 2 : ℝ) : EReal) = 0
  rw [show (-1 : EReal) = ((-1 : ℝ) : EReal) from rfl, ← EReal.coe_mul, ← EReal.coe_add]; norm_num

theorem one_coe : (1 : EReal) = ((1 : ℝ) : EReal) := rfl

/-- The two ways of writing the logistic function agree, at the infinities too. -/
theorem lgs_eq (x : EReal) : lgs x = Ideal.div 1 (1 + Ideal.exp (-x)) := by
  induction x using EReal.rec with
  | bot =>
    rw [lgs_bot]
    show 0 = Ideal.div 1 (1 + ⊤)
    have : (1 : EReal) + ⊤ = ⊤ := EReal.coe_add_top 1
    unfold Ideal.div
    rw [this]
    simp
  | top =>
    rw [lgs_top]
    show 1 = Ideal.div 1 (1 + 0)
    unfold Ideal.div
    simp
  | coe r =>
    rw [lgs_coe]
    show _ = Ideal.div 1 (1 + ((Real.exp (-r) : ℝ) : EReal))
    have p := Real.exp_pos (-r)
    rw [one_coe, ← EReal.coe_add]
    unfold Ideal.div
    rw [if_neg (by rw [show (0 : EReal) = ((0 : ℝ) : EReal) from rfl, EReal.coe_eq_coe_iff.not]; linarith), ← EReal.coe_inv, ← EReal.coe_mul]
    norm_num

/-- A value that is neither infinity. -/
def Fin' (x : EReal) : Prop := ∃ r : ℝ, x = (r : EReal)

theorem fin_zero : Fin' 0 := ⟨0, rfl⟩
theorem fin_add {x y : EReal} (hx : Fin' x) (hy : Fin' y) : Fin' (x + y) := by
  obtain ⟨a, rfl⟩ := hx; obtain ⟨b, rfl⟩ := hy; exact ⟨a + b, (EReal.coe_add a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_sum {ι : Type} (s : Finset ι) {f : ι → EReal} (h : ∀ i, Fin' (f i)) : Fin' (∑ i ∈ s, f i) := by
  classical
  induction s using Finset.induction_on with
  | empty => exact fin_zero
  | insert a s ha ih => rw [Finset.sum_insert ha]; exact fin_add (h a) ih
theorem fin_tanh (x : EReal) : Fin' (Ideal.tanh x) := by
  induction x using EReal.rec with
  | bot => exact ⟨-1, rfl⟩
  | top => exact ⟨1, rfl⟩
  | coe r => exact ⟨_, rfl⟩
theorem fin_lgs (x : EReal) : Fin' (lgs x) := fin_add (fin_mul ⟨_, rfl⟩ (fin_tanh _)) ⟨_, rfl⟩

theorem sum_coe {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, ih, EReal.coe_add]

/-- The largest of finitely many finite values, at least one, is finite. -/
theorem fin_fold {ι : Type} [Fintype ι] [Nonempty ι] (f : ι → EReal) (h : ∀ i, Fin' (f i)) : Fin' (Finset.univ.fold max ⊥ f) := by
  classical
  have key : ∀ s : Finset ι, s.fold max ⊥ f = ⊥ ∧ s = ∅ ∨ Fin' (s.fold max ⊥ f) := by
    intro s
    induction s using Finset.induction_on with
    | empty => exact .inl ⟨rfl, rfl⟩
    | insert a s ha ih =>
      right
      rw [Finset.fold_insert ha]
      rcases ih with ⟨e, -⟩ | ih
      · rw [e, max_eq_left bot_le]
        exact h a
      · rcases max_choice (f a) (s.fold max ⊥ f) with e | e <;> rw [e]
        · exact h a
        · exact ih
  rcases key Finset.univ with ⟨-, e⟩ | h
  · exact absurd e (Finset.univ_nonempty.ne_empty)
  · exact h

theorem many_pos : (0 : EReal) < ∑ t : Fin 512, (1 : EReal) := by
  have e : ∑ t : Fin 512, (1 : ℝ) = 512 := by
    rw [Finset.sum_const, Finset.card_univ, Fintype.card_fin, nsmul_eq_mul, mul_one]
    norm_cast
  rw [one_coe, sum_coe Finset.univ (fun _ : Fin 512 => (1 : ℝ)), e]
  exact EReal.coe_pos.2 (by norm_num)

theorem of_bit {p : Prop} [Decidable p] (h : BitVec.ofBool (decide p) = 1#1) : p := by
  by_contra q
  rw [decide_eq_false q] at h
  exact absurd h (by decide)

theorem and_bits (x y : BitVec 1) : x &&& y = 1#1 ↔ x = 1#1 ∧ y = 1#1 := by
  revert x y
  decide

/-- The bit one as a number. -/
theorem bit_one : (((1#1 : BitVec 1).toNat : ℝ) : EReal) = 1 := by
  rw [show (1#1 : BitVec 1).toNat = 1 from rfl, Nat.cast_one]
  rfl

/-- A softmax average of finite values at finite scores: dividing once at the end, or each weight by the sum after taking a finite
    number off every score. -/
theorem softmax_avg {ι : Type} [Fintype ι] [Nonempty ι] (sc v : ι → EReal) (M : EReal) (hs : ∀ i, Fin' (sc i)) (hv : ∀ i, Fin' (v i)) (hM : Fin' M) :
    Ideal.div (∑ i, Ideal.exp (sc i) * v i) (∑ i, Ideal.exp (sc i))
      = ∑ i, v i * Ideal.div (Ideal.exp (sc i - M)) (∑ j, Ideal.exp (sc j - M)) := by
  choose s hs using hs
  choose w hw using hv
  obtain ⟨K, rfl⟩ := hM
  have e1 : ∀ i, Ideal.exp (sc i) = ((Real.exp (s i) : ℝ) : EReal) := fun i => by rw [hs]; rfl
  have e2 : ∀ i, Ideal.exp (sc i - (K : EReal)) = ((Real.exp (s i - K) : ℝ) : EReal) := fun i => by rw [hs, ← EReal.coe_sub]; rfl
  simp only [e1, e2, hw, ← EReal.coe_mul, sum_coe]
  have p1 : 0 < ∑ i, Real.exp (s i) := Finset.sum_pos (fun i _ => Real.exp_pos _) Finset.univ_nonempty
  have p2 : 0 < ∑ i, Real.exp (s i - K) := Finset.sum_pos (fun i _ => Real.exp_pos _) Finset.univ_nonempty
  have d : ∀ (a b : ℝ), 0 < b → Ideal.div (a : EReal) (b : EReal) = ((a / b : ℝ) : EReal) := by
    intro a b hb
    unfold Ideal.div
    rw [if_neg (by rw [show (0 : EReal) = ((0 : ℝ) : EReal) from rfl, EReal.coe_eq_coe_iff.not]; exact hb.ne'), ← EReal.coe_inv, ← EReal.coe_mul, div_eq_mul_inv]
  rw [d _ _ p1]
  simp only [d _ _ p2, ← EReal.coe_mul, sum_coe]
  congr 1
  have q : ∀ i, Real.exp (s i - K) = Real.exp (s i) * Real.exp (-K) := fun i => by rw [← Real.exp_add]; ring_nf
  simp only [q, ← Finset.sum_mul]
  have p3 := Real.exp_pos (-K)
  rw [Finset.sum_div]
  refine Finset.sum_congr rfl fun i _ => ?_
  field_simp

end Cert.Scalars

end
-- ==== Proof.Cell.lean ====
/-
  The recurrence read entry by entry, at the extended reals: the four gates before their activations on both sides, the cell and the
  hidden vector as functions of the gates, and the array of hidden vectors the reference keeps.
-/
module

public import proofs.«01_k».proof.Proof.Scalar
public import proofs.«01_k».proof.Proof.Body
public import proofs.«01_k».proof.Proof.Reference
public import Idealize.ShloMosaic.Lib.Pointwise
public import Idealize.ShloMosaic.Lib.DynamicIndex

@[expose] public section

set_option maxRecDepth 8192

noncomputable section

namespace Cert.Cells

open Idealize.ShloMosaic
open Cert.KernelIdeal Cert.KernelIdeal.Gen
open Cert.Scalars

/-! The kernel's step. -/

theorem kgate (h : FVec Ideal S128x128 .f32) (g w : FVec Ideal S128x512 .f32) (r : Fin 128) (q : Fin 512) :
    k0_pay8 h g w (ix2 r q) = g (ix2 r q) + ∑ k : Fin 128, h (ix2 r k) * w (ix2 k q) := by
  pointwise [k0_pay8]

theorem kcell (h c : FVec Ideal S128x128 .f32) (g w : FVec Ideal S128x512 .f32) (r l : Fin 128) :
    k0_pay9 (F := Ideal) h c g w (ix2 r l)
      = lgs (k0_pay8 (F := Ideal) h g w (ix2 r ⟨128 + l.val, by omega⟩)) * c (ix2 r l)
        + lgs (k0_pay8 (F := Ideal) h g w (ix2 r ⟨l.val, by omega⟩)) * Ideal.tanh (k0_pay8 (F := Ideal) h g w (ix2 r ⟨256 + l.val, by omega⟩)) := by
  unfold k0_pay9
  generalize k0_pay8 (F := Ideal) h g w = G
  unfold lgs
  pointwise [half_bits]

theorem khidden (h c : FVec Ideal S128x128 .f32) (g w : FVec Ideal S128x512 .f32) (r l : Fin 128) :
    k0_pay10 (F := Ideal) h c g w (ix2 r l)
      = lgs (k0_pay8 (F := Ideal) h g w (ix2 r ⟨384 + l.val, by omega⟩)) * Ideal.tanh (k0_pay9 (F := Ideal) h c g w (ix2 r l)) := by
  unfold k0_pay10
  generalize k0_pay8 (F := Ideal) h g w = G
  generalize k0_pay9 (F := Ideal) h c g w = C
  unfold lgs
  pointwise [half_bits]

theorem kweight (h : FVec Ideal S128x128 .f32) (aw : FVec Ideal S128x1 .f32) (r : Fin 128) :
    k0_pay13 h aw (ix2 r 0) = Ideal.exp (∑ k : Fin 128, h (ix2 r k) * aw (ix2 k 0)) := by
  pointwise [k0_pay13]

theorem kz (h : FVec Ideal S128x128 .f32) (aw z : FVec Ideal S128x1 .f32) (r : Fin 128) :
    k0_pay14 h aw z (ix2 r 0) = z (ix2 r 0) + Ideal.exp (∑ k : Fin 128, h (ix2 r k) * aw (ix2 k 0)) := by
  rw [← kweight]
  unfold k0_pay14
  generalize k0_pay13 h aw = W
  pointwise

theorem ka (h : FVec Ideal S128x128 .f32) (aw : FVec Ideal S128x1 .f32) (a : FVec Ideal S128x128 .f32) (r l : Fin 128) :
    k0_pay15 h aw a (ix2 r l) = a (ix2 r l) + Ideal.exp (∑ k : Fin 128, h (ix2 r k) * aw (ix2 k 0)) * h (ix2 r l) := by
  rw [← kweight]
  unfold k0_pay15
  generalize k0_pay13 h aw = W
  pointwise

theorem kinput (X : FVec Ideal S1x32x128x128 .f32) (w : FVec Ideal S128x512 .f32) (b : FVec Ideal S1x512 .f32) (k : Fin 32) (r : Fin 128) (q : Fin 512) :
    k0_pay7 X w b (ix2 (⟨128 * k.val + r.val, by omega⟩ : Fin 4096) q)
      = (∑ d : Fin 128, X (ix4 0 k r d) * w (ix2 d q)) + b (ix2 0 q) := by
  pointwise [k0_pay7]

theorem krow (G : FVec Ideal S4096x512 .f32) (k : Fin 32) (r : Fin 128) (q : Fin 512) :
    View.ld (Val := Elt Ideal) (e' := .f32) G (rStep k) (ix2 r q) = G (ix2 (⟨128 * k.val + r.val, by omega⟩ : Fin 4096) q) := by
  unfold rStep
  have e0 : k0_off69 (BitVec.ofNat 32 k.val) 0 = 128 * k.val := congrFun (k0_off69_eq k) 0
  have e1 : k0_off69 (BitVec.ofNat 32 k.val) 1 = 0 := congrFun (k0_off69_eq k) 1
  pointwise
  simp only [e0, e1, Nat.zero_add]

/-! The reference's step. -/

section
open Cert.ReferenceIdeal.Step

variable (j : ℕ) (s : State Ideal)

theorem rgate (r : Fin 128) (q : Fin 512) :
    b14 j s (ix2 r q) = (((∑ d : Fin 128, b3 j s (ix2 r d) * s.main_v5_1 (ix2 q d)) + ∑ k : Fin 128, s.main_v5_6 (ix2 r k) * s.main_v5_2 (ix2 q k))
      + s.main_v5_3 (ix1 q)) + s.main_v5_4 (ix1 q) := by
  unfold b14 b13 b12 b11 b10 b9 b8 b7 b6 b5 b4
  generalize b3 j s = x
  pointwise

theorem rcell (r l : Fin 128) :
    b46 j s (ix2 r l)
      = lgs (b14 j s (ix2 r ⟨128 + l.val, by omega⟩)) * s.main_v5_7 (ix2 r l)
        + lgs (b14 j s (ix2 r ⟨l.val, by omega⟩)) * Ideal.tanh (b14 j s (ix2 r ⟨256 + l.val, by omega⟩)) := by
  unfold b46 b45 b44 b35 b34 b33 b32 b31 b30 b29 b28 b27 b26 b25 b24 b23 b22 b21 b20 b19 b17 b16 b15
  generalize b14 j s = G
  simp only [lgs_eq]
  pointwise

theorem rhidden (r l : Fin 128) :
    b48 j s (ix2 r l) = lgs (b14 j s (ix2 r ⟨384 + l.val, by omega⟩)) * Ideal.tanh (b46 j s (ix2 r l)) := by
  unfold b48 b47 b43 b42 b41 b40 b39 b38 b37 b36 b18
  generalize b14 j s = G
  generalize b46 j s = C
  simp only [lgs_eq]
  pointwise

theorem word_eq : ∀ j : Fin 512, (BitVec.ofNat 32 j.val).toInt = (j.val : ℤ) := by decide +kernel

/-- The starts the body reads off its counter and two zeros. -/
def starts (j : ℕ) : Fin 3 → ℤ := fun k =>
  ((![constantI Cert.ReferenceIdeal.S_ 32 (BitVec.ofNat 32 j), constantI Cert.ReferenceIdeal.S_ 32 0#32, constantI Cert.ReferenceIdeal.S_ 32 0#32] :
    Fin 3 → (⟨Cert.ReferenceIdeal.S_, .i32⟩ : BufTy).Contents (Elt Ideal)) k (Shape.Idx.first Cert.ReferenceIdeal.Gen.h_S_)).toInt

theorem starts_eq (hj : j < 512) : ∀ a : Fin 3, starts j a = (((![j, 0, 0] : Fin 3 → ℕ) a : ℕ) : ℤ)
  | ⟨0, _⟩ => word_eq ⟨j, hj⟩
  | ⟨1, _⟩ => rfl
  | ⟨2, _⟩ => rfl

theorem fits (hj : j < 512) : Cert.ReferenceIdeal.S512x128x128.Slices ![j, 0, 0] Cert.ReferenceIdeal.S1x128x128 :=
  ⟨rfl, fun a => match a with
    | ⟨0, _⟩ => Nat.succ_le_of_lt hj
    | ⟨1, _⟩ => le_refl 128
    | ⟨2, _⟩ => le_refl 128⟩

theorem clamp_eq (hj : j < 512) (a : Fin Cert.ReferenceIdeal.S512x128x128.rank) :
    (min (max (starts j a) 0) ((Cert.ReferenceIdeal.S512x128x128.size a - Cert.ReferenceIdeal.S1x128x128.size (a.cast (fits j hj).1.symm) : ℕ) : ℤ)).toNat
      = (![j, 0, 0] : Fin 3 → ℕ) a := by
  have f := (fits j hj).2 a
  rw [starts_eq j hj a]
  omega

theorem slice_at (hj : j < 512) (x : FVec Ideal Cert.ReferenceIdeal.S512x128x128 .f32) :
    Host.dynamicSlice Cert.ReferenceIdeal.S1x128x128 x (starts j) Cert.ReferenceIdeal.Gen.sliceFits_S512x128x128_S1x128x128
      = extractStridedSlice Cert.ReferenceIdeal.S1x128x128 ![j, 0, 0] x (fits j hj) :=
  Host.dynamicSlice_eq_extractStridedSlice_of_clamp _ x (starts j) _ ![j, 0, 0]
    (fun a => clamp_eq j hj a) _

theorem update_at (hj : j < 512) (x : FVec Ideal Cert.ReferenceIdeal.S512x128x128 .f32) (y : FVec Ideal Cert.ReferenceIdeal.S1x128x128 .f32) :
    Host.dynamicUpdateSlice x y (starts j) Cert.ReferenceIdeal.Gen.updateFits_S512x128x128_S1x128x128
      = updateSlice x y ![j, 0, 0] (fits j hj) :=
  Host.dynamicUpdateSlice_eq_updateSlice x y (starts j) _ ![j, 0, 0]
    (fun a => clamp_eq j hj a) _

theorem rinput (hj : j < 512) (r d : Fin 128) : b3 j s (ix2 r d) = s.main_v5_0 (ix3 (⟨j, hj⟩ : Fin 512) r d) := by
  show shapeCast Cert.ReferenceIdeal.S128x128 (Host.dynamicSlice Cert.ReferenceIdeal.S1x128x128 s.main_v5_0 (starts j) _) _ (ix2 r d) = _
  rw [slice_at j hj]
  pointwise

theorem rkept (hj : j < 512) (t : Fin 512) (r l : Fin 128) :
    b52 j s (ix3 t r l) = if t.val = j then b48 j s (ix2 r l) else s.main_v5_8 (ix3 t r l) := by
  show Host.dynamicUpdateSlice s.main_v5_8 (b49 j s) (starts j) _ (ix3 t r l) = _
  rw [update_at j hj]
  unfold b49
  generalize b48 j s = H
  unfold updateSlice
  by_cases h : t.val = j
  · rw [if_pos h, dif_pos]
    · pointwise
    · intro a
      match a with
      | ⟨0, _⟩ => exact ⟨le_of_eq h.symm, by show t.val < j + 1; omega⟩
      | ⟨1, _⟩ => exact ⟨Nat.zero_le _, by show r.val < 0 + 128; omega⟩
      | ⟨2, _⟩ => exact ⟨Nat.zero_le _, by show l.val < 0 + 128; omega⟩
  · rw [if_neg h, dif_neg]
    intro H
    have h0 : j ≤ t.val ∧ t.val < j + 1 := H 0
    omega

end

end Cert.Cells

end
-- ==== Proof.Recur.lean ====
/-
  The recurrence on both sides: the kernel's state after `32 p + n` time steps is the reference's state after as many trips, its two
  attention sums the sums over the time steps so far, and the reference's array of hidden vectors holds each time step's.
-/
module

public import proofs.«01_k».proof.Proof.Cell

@[expose] public section

set_option maxRecDepth 8192

noncomputable section

namespace Cert.Cells

open Idealize.ShloMosaic
open Cert.KernelIdeal Cert.KernelIdeal.Gen
open Cert.Scalars
open Cert.ReferenceIdeal.Step (State b14 b46 b48 b52 b3)

/-- The kernel's operands are the reference's loop constants, transposed and added as the host prepares them. -/
structure Agree (I : Ins Ideal) (s : State Ideal) : Prop where
  x : ∀ (r : Fin 128) (t : Fin 512) (d : Fin 128), I.X (ix3 r t d) = s.main_v5_0 (ix3 t r d)
  w1 : ∀ (d : Fin 128) (q : Fin 512), I.w1 (ix2 d q) = s.main_v5_1 (ix2 q d)
  w2 : ∀ (d : Fin 128) (q : Fin 512), I.w2 (ix2 d q) = s.main_v5_2 (ix2 q d)
  b : ∀ q : Fin 512, I.b (ix2 0 q) = s.main_v5_3 (ix1 q) + s.main_v5_4 (ix1 q)

/-- A sequence of reference states, one trip after another from zero vectors. -/
structure Trips (T : ℕ → State Ideal) : Prop where
  next : ∀ n, T (n + 1) = Cert.ReferenceIdeal.Step.step n (T n)
  h0 : ∀ r l : Fin 128, (T 0).main_v5_6 (ix2 r l) = 0
  c0 : ∀ r l : Fin 128, (T 0).main_v5_7 (ix2 r l) = 0

variable {T : ℕ → State Ideal} (hT : Trips T) {I : Ins Ideal}

/-- The hidden vector time step `t` makes. -/
def hid (T : ℕ → State Ideal) (t : ℕ) (r l : Fin 128) : EReal := (T (t + 1)).main_v5_6 (ix2 r l)

/-- Its attention score. -/
def score (T : ℕ → State Ideal) (aw : FVec Ideal S128x1 .f32) (t : ℕ) (r : Fin 128) : EReal := ∑ k : Fin 128, hid T t r k * aw (ix2 k 0)

include hT

theorem agree_trip (hA : Agree I (T 0)) : ∀ n, Agree I (T n)
  | 0 => hA
  | n + 1 => by
    have h := agree_trip hA n
    rw [hT.next n]
    exact ⟨h.x, h.w1, h.w2, h.b⟩

theorem hid_eq (t : ℕ) (r l : Fin 128) : hid T t r l = b48 t (T t) (ix2 r l) := by
  unfold hid
  rw [hT.next t, Cert.ReferenceIdeal.Step.step_main_v5_6]

/-- A hidden vector is finite whatever the operands are. -/
theorem fin_hid (t : ℕ) (r l : Fin 128) : Fin' (hid T t r l) := by
  rw [hid_eq hT, rhidden]
  exact fin_mul (fin_lgs _) (fin_tanh _)

theorem fin_score (aw : FVec Ideal S128x1 .f32) (haw : ∀ k : Fin 128, Fin' (aw (ix2 k 0))) (t : ℕ) (r : Fin 128) : Fin' (score T aw t r) :=
  fin_sum _ fun k => fin_mul (fin_hid hT t r k) (haw k)

/-- The reference's array holds the hidden vectors so far. -/
theorem hiddens_kept : ∀ n ≤ 512, ∀ (t : Fin 512) (r l : Fin 128), t.val < n → (T n).main_v5_8 (ix3 t r l) = hid T t.val r l
  | 0, _, _, _, _, h => absurd h (Nat.not_lt_zero _)
  | n + 1, hn, t, r, l, h => by
    rw [hT.next n, Cert.ReferenceIdeal.Step.step_main_v5_8, rkept n (T n) (by omega)]
    by_cases e : t.val = n
    · rw [if_pos e, hid_eq hT, e]
    · rw [if_neg e]
      exact hiddens_kept n (by omega) t r l (by omega)

omit hT in
/-- The kernel's state against the reference's after `n` time steps. -/
structure Sim (T : ℕ → State Ideal) (aw : FVec Ideal S128x1 .f32) (n : ℕ) (σ : St Ideal) : Prop where
  h : ∀ r l : Fin 128, σ.h (ix2 r l) = (T n).main_v5_6 (ix2 r l)
  c : ∀ r l : Fin 128, σ.c (ix2 r l) = (T n).main_v5_7 (ix2 r l)
  z : ∀ r : Fin 128, σ.z (ix2 r 0) = ∑ u ∈ Finset.range n, Ideal.exp (score T aw u r)
  a : ∀ r l : Fin 128, σ.a (ix2 r l) = ∑ u ∈ Finset.range n, Ideal.exp (score T aw u r) * hid T u r l

omit hT in
theorem zero_entries (r l : Fin 128) : (k0_pay3 (F := Ideal)) (ix2 r l) = 0 ∧ (k0_pay4 (F := Ideal)) (ix2 r l) = 0
    ∧ (k0_pay5 (F := Ideal)) (ix2 r 0) = 0 ∧ (k0_pay6 (F := Ideal)) (ix2 r l) = 0 := by
  refine ⟨?_, ?_, ?_, ?_⟩
  · pointwise [k0_pay3]
  · pointwise [k0_pay4]
  · pointwise [k0_pay5]
  · pointwise [k0_pay6]

theorem sim_clear (aw : FVec Ideal S128x1 .f32) : Sim T aw 0 (St.clear (F := Ideal)) where
  h r l := (zero_entries r l).1.trans (hT.h0 r l).symm
  c r l := (zero_entries r l).2.1.trans (hT.c0 r l).symm
  z r := (zero_entries r 0).2.2.1
  a r l := (zero_entries r l).2.2.2

/-- The gates agree where the states do. -/
theorem gates_eq (hA : Agree I (T 0)) {n : ℕ} (hn : n < 512) {aw : FVec Ideal S128x1 .f32} {σ : St Ideal} (hs : Sim T aw n σ)
    {g : FVec Ideal S128x512 .f32}
    (hg : ∀ (r : Fin 128) (q : Fin 512), g (ix2 r q) = (∑ d : Fin 128, I.X (ix3 r (⟨n, hn⟩ : Fin 512) d) * I.w1 (ix2 d q)) + I.b (ix2 0 q))
    (r : Fin 128) (q : Fin 512) : k0_pay8 σ.h g I.w2 (ix2 r q) = b14 n (T n) (ix2 r q) := by
  have A := agree_trip hT hA n
  rw [kgate, rgate, hg, A.b]
  simp only [rinput n (T n) hn, A.x, A.w1, A.w2, hs.h]
  abel

theorem sim_step (hA : Agree I (T 0)) {n : ℕ} (hn : n < 512) {σ : St Ideal} (hs : Sim T I.aw n σ) {g : FVec Ideal S128x512 .f32}
    (hg : ∀ (r : Fin 128) (q : Fin 512), g (ix2 r q) = (∑ d : Fin 128, I.X (ix3 r (⟨n, hn⟩ : Fin 512) d) * I.w1 (ix2 d q)) + I.b (ix2 0 q)) :
    Sim T I.aw (n + 1) (σ.step I.w2 I.aw g) := by
  have G := gates_eq hT hA hn hs hg
  have C : ∀ r l : Fin 128, k0_pay9 σ.h σ.c g I.w2 (ix2 r l) = b46 n (T n) (ix2 r l) := fun r l => by
    rw [kcell, rcell, G, G, G, hs.c]
  have H : ∀ r l : Fin 128, k0_pay10 σ.h σ.c g I.w2 (ix2 r l) = hid T n r l := fun r l => by
    rw [khidden, hid_eq hT, rhidden, G, C]
  refine ⟨fun r l => ?_, fun r l => ?_, fun r => ?_, fun r l => ?_⟩
  · have e : k0_pay12 (k0_pay10 σ.h σ.c g I.w2) (ix2 r l) = k0_pay10 σ.h σ.c g I.w2 (ix2 r l) := by
      unfold k0_pay12
      generalize k0_pay10 (F := Ideal) σ.h σ.c g I.w2 = v
      pointwise
    exact e.trans (H r l)
  · have e : k0_pay11 σ.h σ.c g I.w2 (ix2 r l) = k0_pay9 σ.h σ.c g I.w2 (ix2 r l) := by
      unfold k0_pay11
      generalize k0_pay9 (F := Ideal) σ.h σ.c g I.w2 = v
      pointwise
    rw [hT.next n, Cert.ReferenceIdeal.Step.step_main_v5_7]
    exact e.trans (C r l)
  · refine (kz _ I.aw σ.z r).trans ?_
    rw [Finset.sum_range_succ, hs.z r]
    simp only [H]
    rfl
  · refine (ka _ I.aw σ.a r l).trans ?_
    rw [Finset.sum_range_succ, hs.a r l]
    simp only [H]
    rfl

theorem sim_steps (hA : Agree I (T 0)) (p : Fin 16) {σ : St Ideal} (hs : Sim T I.aw (32 * p.val) σ) :
    ∀ (n : ℕ) (h : n ≤ 32), Sim T I.aw (32 * p.val + n) (St.steps I.w2 I.aw (k0_pay7 (blkV I.X p) I.w1 I.b) σ n h)
  | 0, _ => hs
  | n + 1, h => sim_step hT hA (by omega) (sim_steps hA p hs n (by omega)) fun r q => (krow _ ⟨n, h⟩ r q).trans (kinput _ _ _ ⟨n, h⟩ r q)

theorem sim_at (hA : Agree I (T 0)) : ∀ (p : ℕ) (h : p ≤ 16), Sim T I.aw (32 * p) (stAt I p h)
  | 0, _ => sim_clear hT _
  | p + 1, h => sim_steps hT hA ⟨p, h⟩ (sim_at hA p (by omega)) 32 le_rfl

/-- After all 512 time steps. -/
theorem sim_end (hA : Agree I (T 0)) : Sim T I.aw 512 (stAt I 16 le_rfl) := sim_at hT hA 16 le_rfl

end Cert.Cells

end
-- ==== Proof.Tail.lean ====
/-
  What the reference makes of the hidden vectors: attention over time, the classifier layer, attention over objects and the last
  product, each its own function, and what each is entry by entry where no step is masked.
-/
module

public import proofs.«01_k».proof.Proof.Recur

@[expose] public section

set_option maxRecDepth 8192

noncomputable section

namespace Cert.Tail

open Idealize.ShloMosaic
open Cert.ReferenceIdeal Cert.ReferenceIdeal.Gen
open Cert.Scalars

section defs

variable {F : FTy → Type} [FloatOps F]

/-- The mask by row and time step. -/
def msk (m : FVec F S8x512x16 .f32) : FVec F S128x512 .f32 := shapeCast _ m shapeCasts_S8x512x16_S128x512
def spread (w : FVec F S128x512 .f32) : FVec F S128x512x128 .f32 :=
  broadcastInDim S128x512x128 ![0, 1, 2] bcast_S128x512x1_S128x512x128_0_1_2 (broadcastInDim S128x512x1 ![0, 1] bcast_S128x512_S128x512x1_0_1 w)
/-- The masked hidden vectors. -/
def outs (hs : FVec F S512x128x128 .f32) (m : FVec F S8x512x16 .f32) : FVec F S128x512x128 .f32 :=
  mulf (transpose S128x512x128 [1, 0, 2] hs transposes_S512x128x128_S128x512x128_1_0_2) (spread (msk m))
/-- Their scores, minus infinity where masked. -/
def scores (o : FVec F S128x512x128 .f32) (m : FVec F S8x512x16 .f32) (aw : FVec F S1x128 .f32) : FVec F S128x512 .f32 :=
  select (cmpf .oeq (msk m) (broadcastInDim S128x512 ![] bcast_S_S128x512 (constant S_ .f32 0x00000000#32)))
    (broadcastInDim S128x512 ![] bcast_S_S128x512 (id (constant S_ .f32 0xFF800000#32)))
    (Host.dotGeneral dot_S128x512x128_S128_S128x512_2_0_01_n_n_n none o (shapeCast _ aw shapeCasts_S1x128_S128))
/-- Each row's largest score. -/
def most (sc : FVec F S128x512 .f32) : FVec F S128 .f32 :=
  maximumf (broadcastInDim S128 ![] bcast_S_S128 (constant S_ .f32 0xFF800000#32))
    (Host.reduce FloatOps.maximumf sc (constant S_ .f32 0xFF800000#32) reducesTo_S128x512_S128_d1 h_S_)
def across (v : FVec F S128 .f32) : FVec F S128x512 .f32 :=
  broadcastInDim S128x512 ![0, 1] bcast_S128x1_S128x512_0_1 (broadcastInDim S128x1 ![0] bcast_S128_S128x1_0 v)
def shifted (sc : FVec F S128x512 .f32) : FVec F S128x512 .f32 := Host.exp (subf sc (across (most sc)))
def weights (e : FVec F S128x512 .f32) : FVec F S128x512 .f32 :=
  Host.divf e (across (Host.reduceAdd e (constant S_ .f32 0x00000000#32) reducesTo_S128x512_S128_d1 h_S_))
/-- The hidden vectors averaged over time. -/
def attend (o : FVec F S128x512x128 .f32) (w : FVec F S128x512 .f32) : FVec F S128x128 .f32 :=
  Host.reduceAdd (mulf o (spread w)) (constant S_ .f32 0x00000000#32) reducesTo_S128x512x128_S128x128_d1 h_S_
/-- The classifier layer. -/
def layer (a : FVec F S128x128 .f32) (fw : FVec F S128x128 .f32) (fb : FVec F S128 .f32) : FVec F S128x128 .f32 :=
  maximumf (addf (Host.dotGeneral dot_S128x128_S128x128_S128x128_1_0_0_1_n_n none a (transpose S128x128 [1, 0] fw transposes_S128x128_S128x128_1_0))
      (broadcastInDim S128x128 ![0, 1] bcast_S1x128_S128x128_0_1 (broadcastInDim S1x128 ![1] bcast_S128_S1x128_1 fb)))
    (broadcastInDim S128x128 ![] bcast_S_S128x128 (constant S_ .f32 0x00000000#32))
/-- One where a row has a step that counts, zero elsewhere. -/
def present (m : FVec F S8x512x16 .f32) : FVec F S128 .f32 :=
  uitofp .f32 (cmpf .ogt (Host.reduceAdd (msk m) (constant S_ .f32 0x00000000#32) reducesTo_S128x512_S128_d1 h_S_)
    (broadcastInDim S128 ![] bcast_S_S128 (constant S_ .f32 0x00000000#32)))
def objects (y : FVec F S128x128 .f32) (m : FVec F S8x512x16 .f32) : FVec F S8x16x128 .f32 :=
  shapeCast _ (mulf y (broadcastInDim S128x128 ![0, 1] bcast_S128x1_S128x128_0_1 (broadcastInDim S128x1 ![0] bcast_S128_S128x1_0 (present m))))
    shapeCasts_S128x128_S8x16x128
def pscores (f : FVec F S8x16x128 .f32) (pw : FVec F S1x128 .f32) : FVec F S8x16 .f32 :=
  Host.dotGeneral dot_S8x16x128_S128_S8x16_2_0_01_n_n_n none f (shapeCast _ pw shapeCasts_S1x128_S128)
def pacross (v : FVec F S8 .f32) : FVec F S8x16 .f32 :=
  broadcastInDim S8x16 ![0, 1] bcast_S8x1_S8x16_0_1 (broadcastInDim S8x1 ![0] bcast_S8_S8x1_0 v)
def pshifted (sc : FVec F S8x16 .f32) : FVec F S8x16 .f32 :=
  Host.exp (subf sc (pacross (maximumf (broadcastInDim S8 ![] bcast_S_S8 (constant S_ .f32 0xFF800000#32))
    (Host.reduce FloatOps.maximumf sc (constant S_ .f32 0xFF800000#32) reducesTo_S8x16_S8_d1 h_S_))))
def pweights (e : FVec F S8x16 .f32) : FVec F S8x16 .f32 :=
  Host.divf e (pacross (Host.reduceAdd e (constant S_ .f32 0x00000000#32) reducesTo_S8x16_S8_d1 h_S_))
def pattend (f : FVec F S8x16x128 .f32) (w : FVec F S8x16 .f32) : FVec F S8x128 .f32 :=
  Host.reduceAdd (mulf f (broadcastInDim S8x16x128 ![0, 1, 2] bcast_S8x16x1_S8x16x128_0_1_2 (broadcastInDim S8x16x1 ![0, 1] bcast_S8x16_S8x16x1_0_1 w)))
    (constant S_ .f32 0x00000000#32) reducesTo_S8x16x128_S8x128_d1 h_S_
def last (p : FVec F S8x128 .f32) (ow : FVec F S10x128 .f32) (ob : FVec F S10 .f32) : FVec F S8x10 .f32 :=
  addf (Host.dotGeneral dot_S8x128_S128x10_S8x10_1_0_0_1_n_n none p (transpose S128x10 [1, 0] ow transposes_S10x128_S128x10_1_0))
    (broadcastInDim S8x10 ![0, 1] bcast_S1x10_S8x10_0_1 (broadcastInDim S1x10 ![1] bcast_S10_S1x10_1 ob))

/-- Attention over objects and the last product. -/
def pool (f : FVec F S8x16x128 .f32) (pw : FVec F S1x128 .f32) (ow : FVec F S10x128 .f32) (ob : FVec F S10 .f32) : FVec F S8x10 .f32 :=
  last (pattend f (pweights (pshifted (pscores f pw)))) ow ob

/-- Attention over time. -/
def timed (hs : FVec F S512x128x128 .f32) (m : FVec F S8x512x16 .f32) (aw : FVec F S1x128 .f32) : FVec F S128x128 .f32 :=
  attend (outs hs m) (weights (shifted (scores (outs hs m) m aw)))

theorem result_eq (s : Step.State F) (m : FVec F S8x512x16 .f32) (aw : FVec F S1x128 .f32) (fw : FVec F S128x128 .f32) (fb : FVec F S128 .f32)
    (ow : FVec F S10x128 .f32) (ob : FVec F S10 .f32) (pw : FVec F S1x128 .f32) :
    Step.R_main_v66 s m aw fw fb ow ob pw = pool (objects (layer (timed s.main_v5_8 m aw) fw fb) m) pw ow ob := by
  unfold Step.R_main_v66
  rfl

end defs

/-! Entry by entry. -/

/-- The mask is one everywhere. -/
def Unmasked (m : FVec Ideal S8x512x16 .f32) : Prop := ∀ i, m i = 1

variable {m : FVec Ideal S8x512x16 .f32} (hm : Unmasked m)

include hm

theorem msk_one (i : S128x512.Idx) : msk m i = 1 := hm _

theorem outs_apply (hs : FVec Ideal S512x128x128 .f32) (r : Fin 128) (t : Fin 512) (l : Fin 128) :
    outs hs m (ix3 r t l) = hs (ix3 t r l) := by
  have h := msk_one hm (ix2 r t)
  unfold outs spread
  generalize msk m = M at h
  pointwise
  rw [h, mul_one]

theorem scores_apply (o : FVec Ideal S128x512x128 .f32) (aw : FVec Ideal S1x128 .f32) (r : Fin 128) (t : Fin 512) :
    scores o m aw (ix2 r t) = ∑ k : Fin 128, o (ix3 r t k) * aw (ix2 0 k) := by
  have h := msk_one hm (ix2 r t)
  unfold scores
  generalize msk m = M at h
  pointwise [h]
  rw [if_neg one_ne_zero]

theorem present_one (r : Fin 128) : present m (ix1 r) = 1 := by
  have h : ∀ t : Fin 512, msk m (ix2 r t) = 1 := fun t => msk_one hm _
  unfold present
  generalize msk m = M at h
  pointwise [h]
  rw [decide_eq_true many_pos]
  exact bit_one

omit hm

theorem shifted_apply (sc : FVec Ideal S128x512 .f32) (r : Fin 128) (t : Fin 512) :
    shifted sc (ix2 r t) = Ideal.exp (sc (ix2 r t) - most sc (ix1 r)) := by
  unfold shifted across
  generalize most sc = M
  pointwise

theorem most_apply (sc : FVec Ideal S128x512 .f32) (r : Fin 128) :
    most sc (ix1 r) = Finset.univ.fold max ⊥ (fun t : Fin 512 => sc (ix2 r t)) := by
  pointwise [most, neg_inf_bits]
  exact max_eq_right bot_le

theorem weights_apply (e : FVec Ideal S128x512 .f32) (r : Fin 128) (t : Fin 512) :
    weights e (ix2 r t) = Ideal.div (e (ix2 r t)) (∑ u : Fin 512, e (ix2 r u)) := by
  pointwise [weights, across]

theorem attend_apply (o : FVec Ideal S128x512x128 .f32) (w : FVec Ideal S128x512 .f32) (r l : Fin 128) :
    attend o w (ix2 r l) = ∑ t : Fin 512, o (ix3 r t l) * w (ix2 r t) := by
  pointwise [attend, spread]

/-- A largest score of finite scores is finite. -/
theorem fin_most (sc : FVec Ideal S128x512 .f32) (r : Fin 128) (h : ∀ t : Fin 512, Fin' (sc (ix2 r t))) : Fin' (most sc (ix1 r)) := by
  rw [most_apply]
  exact fin_fold _ h

/-- Attention over time, by the kernel's two sums. -/
theorem timed_apply {m : FVec Ideal S8x512x16 .f32} (hm : Unmasked m) (hs : FVec Ideal S512x128x128 .f32) (aw : FVec Ideal S1x128 .f32)
    (hf : ∀ (t : Fin 512) (r l : Fin 128), Fin' (hs (ix3 t r l))) (ha : ∀ k : Fin 128, Fin' (aw (ix2 0 k))) (r l : Fin 128) :
    timed hs m aw (ix2 r l)
      = Ideal.div (∑ t : Fin 512, Ideal.exp (∑ k : Fin 128, hs (ix3 t r k) * aw (ix2 0 k)) * hs (ix3 t r l))
          (∑ t : Fin 512, Ideal.exp (∑ k : Fin 128, hs (ix3 t r k) * aw (ix2 0 k))) := by
  have hsc : ∀ t : Fin 512, scores (outs hs m) m aw (ix2 r t) = ∑ k : Fin 128, hs (ix3 t r k) * aw (ix2 0 k) := fun t => by
    rw [scores_apply hm]
    simp only [outs_apply hm]
  have hfs : ∀ t : Fin 512, Fin' (∑ k : Fin 128, hs (ix3 t r k) * aw (ix2 0 k)) := fun t => fin_sum _ fun k => fin_mul (hf t r k) (ha k)
  unfold timed
  rw [attend_apply]
  simp only [outs_apply hm, weights_apply, shifted_apply, hsc]
  exact (softmax_avg _ _ _ hfs (fun t => hf t r l) (fin_most _ r fun t => by rw [hsc]; exact hfs t)).symm

end Cert.Tail

end
-- ==== Proof.Pool.lean ====
/-
  The kernel's two results against the reference's functions: the recurrence kernel's classifier layer, and the pooling kernel.
-/
module

public import proofs.«01_k».proof.Proof.Tail

@[expose] public section

set_option maxRecDepth 8192

noncomputable section

namespace Cert.Tail

open Idealize.ShloMosaic
open Cert.KernelIdeal Cert.KernelIdeal.Gen
open Cert.Scalars Cert.Cells
open Cert.ReferenceIdeal.Step (State)

/-! Attention over time and the classifier layer. -/

theorem klayer (a : FVec Ideal S128x128 .f32) (z : FVec Ideal S128x1 .f32) (w : FVec Ideal S128x128 .f32) (b : FVec Ideal S1x128 .f32) (r l : Fin 128) :
    k0_pay2 (F := Ideal) a z w b (ix2 r l) = max ((∑ k : Fin 128, Ideal.div (a (ix2 r k)) (z (ix2 r 0)) * w (ix2 k l)) + b (ix2 0 l)) 0 := by
  pointwise [k0_pay2]

theorem rlayer (a w : FVec Ideal S128x128 .f32) (b : FVec Ideal Cert.ReferenceIdeal.S128 .f32) (r l : Fin 128) :
    layer a w b (ix2 r l) = max ((∑ k : Fin 128, a (ix2 r k) * w (ix2 l k)) + b (ix1 l)) 0 := by
  pointwise [layer]

variable {T : ℕ → State Ideal} (hT : Trips T) {I : Ins Ideal} {m : FVec Ideal Cert.ReferenceIdeal.S8x512x16 .f32} (hm : Unmasked m)

include hT hm in
/-- The recurrence kernel's result is the reference's classifier layer. -/
theorem outOf_eq (hA : Agree I (T 0)) (aw : FVec Ideal Cert.ReferenceIdeal.S1x128 .f32) (fw : FVec Ideal S128x128 .f32)
    (fb : FVec Ideal Cert.ReferenceIdeal.S128 .f32) (haw : ∀ k : Fin 128, I.aw (ix2 k 0) = aw (ix2 0 k)) (hfin : ∀ k : Fin 128, Fin' (aw (ix2 0 k)))
    (hfw : ∀ k l : Fin 128, I.fw (ix2 k l) = fw (ix2 l k)) (hfb : ∀ l : Fin 128, I.fb (ix2 0 l) = fb (ix1 l)) :
    outOf I = layer (timed (T 512).main_v5_8 m aw) fw fb := by
  have S := sim_end hT hA
  have K : ∀ (t : Fin 512) (r l : Fin 128), (T 512).main_v5_8 (ix3 t r l) = hid T t.val r l := fun t r l =>
    hiddens_kept hT 512 le_rfl t r l t.isLt
  have E : ∀ r l : Fin 128, timed (T 512).main_v5_8 m aw (ix2 r l)
      = Ideal.div ((stAt I 16 le_rfl).a (ix2 r l)) ((stAt I 16 le_rfl).z (ix2 r 0)) := fun r l => by
    rw [timed_apply hm _ aw (fun t r l => by rw [K]; exact fin_hid hT t.val r l) hfin, S.a, S.z, Finset.sum_range, Finset.sum_range]
    simp only [K, score, haw]
  funext i
  obtain ⟨r, l, rfl⟩ : ∃ r l : Fin 128, i = ix2 r l := ⟨i 0, i 1, eq_ix2 i⟩
  unfold outOf
  rw [klayer, rlayer]
  simp only [E, hfw, hfb]

include hm in
/-- Every object counts. -/
theorem objects_apply (y : FVec Ideal S128x128 .f32) (b : Fin 8) (o : Fin 16) (l : Fin 128) :
    objects y m (ix3 b o l) = y (ix2 (⟨b.val * 16 + o.val, by omega⟩ : Fin 128) l) := by
  have h : ∀ r : Fin 128, present m (ix1 r) = 1 := present_one hm
  unfold objects
  generalize present m = M at h
  pointwise [h]

/-! Attention over objects. -/

theorem kpool (f : FVec Ideal S8x16x128 .f32) (kw : FVec Ideal S1x1x128 .f32) (kow : FVec Ideal S128x10 .f32) (kob : FVec Ideal S1x10 .f32)
    (pw : FVec Ideal Cert.ReferenceIdeal.S1x128 .f32) (ow : FVec Ideal Cert.ReferenceIdeal.S10x128 .f32) (ob : FVec Ideal Cert.ReferenceIdeal.S10 .f32)
    (hpw : ∀ l : Fin 128, kw (ix3 0 0 l) = pw (ix2 0 l)) (how : ∀ (k : Fin 128) (n : Fin 10), kow (ix2 k n) = ow (ix2 n k))
    (hob : ∀ n : Fin 10, kob (ix2 0 n) = ob (ix1 n)) : k1_pay1 f kw kow kob = pool f pw ow ob := by
  funext i
  obtain ⟨b, n, rfl⟩ : ∃ (b : Fin 8) (n : Fin 10), i = ix2 b n := ⟨i 0, i 1, eq_ix2 i⟩
  unfold pool last pattend pweights pshifted pscores pacross
  pointwise [k1_pay1, neg_inf_bits, hpw, how, hob]
  simp only [max_eq_right (bot_le (a := (Finset.univ.fold max ⊥ _ : EReal)))]

end Cert.Tail

end
-- ==== Proof.Prepared.lean ====
/-
  The arrays the host prepares for the two kernels, as functions of the arguments.
-/
module

public import proofs.«01_k».proof.Proof.Results

@[expose] public section

set_option maxRecDepth 65536

noncomputable section

namespace Cert.KernelIdeal

open Cert.KernelIdeal.Gen
open Idealize.ShloMosaic Idealize.ShloMosaic.TcCoe
open Idealize.SL.Sem

variable {F : FTy → Type} [FloatOps F]

variable (m : (ℓ : Loc nD τ sig) → Buf (Elt F) ℓ) (c : Dev nD)

/-- An argument at launch. -/
abbrev arg (r : Ref sig .tc) : Buf (Elt F) ((c : Thread nD τ).loc r) := m ((c : Thread nD τ).loc r)

theorem prep_x : A1 m c main_call0_v0 = shapeCast S128x512x128 (arg m c main_arg0) shapeCasts_S8x512x16x128_S128x512x128 := by
  unfold A1
  after_results
  rfl
theorem prep_w1 : A1 m c main_call0_v1 = transpose S128x512 [1, 0] (arg m c main_arg2) transposes_S512x128_S128x512_1_0 := by
  unfold A1
  after_results
  rfl
theorem prep_w2 : A1 m c main_call0_v2 = transpose S128x512 [1, 0] (arg m c main_arg3) transposes_S512x128_S128x512_1_0 := by
  unfold A1
  after_results
  rfl
theorem prep_b : A1 m c main_call0_v4 = shapeCast S1x512 (addf (φ := .f32) (arg m c main_arg4) (arg m c main_arg5)) shapeCasts_S512_S1x512 := by
  unfold A1
  after_results
  rfl
theorem prep_aw : A1 m c main_call0_v5 = shapeCast S128x1 (arg m c main_arg6) shapeCasts_S1x128_S128x1 := by
  unfold A1
  after_results
  rfl
theorem prep_fw : A1 m c main_call0_v6 = transpose S128x128 [1, 0] (arg m c main_arg7) transposes_S128x128_S128x128_1_0 := by
  unfold A1
  after_results
  rfl
theorem prep_fb : A1 m c main_call0_v7 = shapeCast S1x128 (arg m c main_arg8) shapeCasts_S128_S1x128 := by
  unfold A1
  after_results
  rfl

theorem later (r : Ref sig .tc) (h0 : r ∉ hostOps0_W) (h1 : ∀ w, r ≠ Pipeline.arrRef spec0 w) : A2 m c r = arg m c r :=
  (A2_keeps m c r h1).trans (A1_keeps m c r h0)

theorem prep_f : A3 m c main_call0_v9 = shapeCast S8x16x128 (A2 m c main_call0_v8) shapeCasts_S128x128_S8x16x128 := by
  unfold A3
  generalize A2 m c = V
  after_results
  rfl
theorem prep_pw : A3 m c main_call0_v10 = shapeCast S1x1x128 (arg m c main_arg11) shapeCasts_S1x128_S1x1x128 := by
  have e := later m c main_arg11 (by decide) (by decide)
  unfold A3
  generalize A2 m c = V at e
  rw [← e]
  after_results
  rfl
theorem prep_ow : A3 m c main_call0_v11 = transpose S128x10 [1, 0] (arg m c main_arg9) transposes_S10x128_S128x10_1_0 := by
  have e := later m c main_arg9 (by decide) (by decide)
  unfold A3
  generalize A2 m c = V at e
  rw [← e]
  after_results
  rfl
theorem prep_ob : A3 m c main_call0_v12 = shapeCast S1x10 (arg m c main_arg10) shapeCasts_S10_S1x10 := by
  have e := later m c main_arg10 (by decide) (by decide)
  unfold A3
  generalize A2 m c = V at e
  rw [← e]
  after_results
  rfl

end Cert.KernelIdeal

end
-- ==== Proof.Value.lean ====
/-
  The kernel's result is the reference's, where no step is masked and the attention weights are finite.
-/
module

public import proofs.«01_k».proof.Defs
public import proofs.«01_k».proof.Proof.Pool
public import proofs.«01_k».proof.Proof.Prepared
public import proofs.«01_k».proof.Proof.Reference
public import Idealize.ShloMosaic.Lib.ReduceAll

@[expose] public section

set_option maxRecDepth 8192

noncomputable section

namespace Cert.Proof

open Idealize.ShloMosaic Idealize.ShloMosaic.TcCoe Idealize.SL.Sem
open Cert.Scalars Cert.Cells Cert.Tail

/-! The precondition. -/

instance preFacts : Cert.Pre_unpadded_finite.Facts := ⟨by decide, by decide, by decide, by decide, by decide⟩

/-- The absolute value. -/
def size (x : EReal) : EReal := max x (-x)

theorem fin_of_size (x : EReal) (h : size x < ⊤) : Fin' x := by
  unfold size at h
  induction x using EReal.rec with
  | bot => exact absurd h (by simp)
  | top => exact absurd h (by simp)
  | coe r => exact ⟨r, rfl⟩

variable (m : (ℓ : Loc Cert.KernelIdeal.nD Cert.KernelIdeal.τ Cert.KernelIdeal.sig) → Buf (Elt Ideal) ℓ) (c : Dev Cert.KernelIdeal.nD)

theorem pre_both (h : Cert.Pre_KernelIdeal_unpadded_finite m) :
    Unmasked (Cert.KernelIdeal.arg m c Cert.KernelIdeal.main_arg1)
      ∧ ∀ k : Fin 128, Fin' ((Cert.KernelIdeal.arg m c Cert.KernelIdeal.main_arg6 : FVec Ideal Cert.KernelIdeal.S1x128 .f32) (ix2 0 k)) := by
  have e := congrFun (h c) (Shape.Idx.first Cert.Pre_unpadded_finite.Facts.h_S_)
  unfold Cert.Pre_unpadded_finite.fn at e
  obtain ⟨e1, e2⟩ := (and_bits _ _).1 e
  refine ⟨fun i => ?_, fun k => ?_⟩
  · have q := Host.reduce_andi_all _ _ _ _ _ e1 i
    have q' : BitVec.ofBool (decide (Cert.KernelIdeal.arg m c Cert.KernelIdeal.main_arg1 i = Ideal.ofBits .f32 0x3F800000#32)) = 1#1 := q
    rw [Ideal.ofBits_one_f32] at q'
    exact of_bit q'
  · have q := Host.reduce_andi_all _ _ _ _ _ e2 (ix2 0 k)
    have q' : BitVec.ofBool (decide (size ((Cert.KernelIdeal.arg m c Cert.KernelIdeal.main_arg6 : FVec Ideal Cert.KernelIdeal.S1x128 .f32) (ix2 0 k))
      < Ideal.ofBits .f32 0x7F800000#32)) = 1#1 := q
    rw [inf_bits] at q'
    exact fin_of_size _ (of_bit q')

/-! The kernel's operands. -/

variable (m' : (ℓ : Loc Cert.ReferenceIdeal.nD Cert.ReferenceIdeal.τ Cert.ReferenceIdeal.sig) → Buf (Elt Ideal) ℓ)

theorem trips_ref : Trips (Cert.ReferenceIdeal.Trips.trip m' c) where
  next n := rfl
  h0 r l := by
    show Cert.ReferenceIdeal.Step.K_main_v1 (F := Ideal) (ix2 r l) = 0
    pointwise [Cert.ReferenceIdeal.Step.K_main_v1, Cert.ReferenceIdeal.Step.K_main_cst]
  c0 r l := by
    show Cert.ReferenceIdeal.Step.K_main_v2 (F := Ideal) (ix2 r l) = 0
    pointwise [Cert.ReferenceIdeal.Step.K_main_v2, Cert.ReferenceIdeal.Step.K_main_cst_0]

theorem input_entry (x : FVec Ideal Cert.KernelIdeal.S8x512x16x128 .f32) (r : Fin 128) (t : Fin 512) (d : Fin 128) :
    (Cert.ReferenceIdeal.Step.A_main_v3 (F := Ideal) x : FVec Ideal Cert.ReferenceIdeal.S512x128x128 .f32) (ix3 t r d)
      = shapeCast Cert.KernelIdeal.S128x512x128 x Cert.KernelIdeal.Gen.shapeCasts_S8x512x16x128_S128x512x128 (ix3 r t d) := by
  unfold Cert.ReferenceIdeal.Step.A_main_v3 Cert.ReferenceIdeal.Step.A_main_v0
  generalize shapeCast Cert.KernelIdeal.S128x512x128 x Cert.KernelIdeal.Gen.shapeCasts_S8x512x16x128_S128x512x128 = X
  pointwise

theorem turned (w : FVec Ideal Cert.KernelIdeal.S512x128 .f32) (d : Fin 128) (q : Fin 512) :
    transpose Cert.KernelIdeal.S128x512 [1, 0] w Cert.KernelIdeal.Gen.transposes_S512x128_S128x512_1_0 (ix2 d q) = w (ix2 q d) := by
  pointwise

theorem turned_fw (w : FVec Ideal Cert.KernelIdeal.S128x128 .f32) (d q : Fin 128) :
    transpose Cert.KernelIdeal.S128x128 [1, 0] w Cert.KernelIdeal.Gen.transposes_S128x128_S128x128_1_0 (ix2 d q) = w (ix2 q d) := by
  pointwise

theorem turned_ow (w : FVec Ideal Cert.KernelIdeal.S10x128 .f32) (k : Fin 128) (n : Fin 10) :
    transpose Cert.KernelIdeal.S128x10 [1, 0] w Cert.KernelIdeal.Gen.transposes_S10x128_S128x10_1_0 (ix2 k n) = w (ix2 n k) := by
  pointwise

theorem bias_entry (x y : FVec Ideal Cert.KernelIdeal.S512 .f32) (q : Fin 512) :
    shapeCast Cert.KernelIdeal.S1x512 (addf x y) Cert.KernelIdeal.Gen.shapeCasts_S512_S1x512 (ix2 0 q) = x (ix1 q) + y (ix1 q) := by
  pointwise

theorem column_entry (x : FVec Ideal Cert.KernelIdeal.S1x128 .f32) (k : Fin 128) :
    shapeCast Cert.KernelIdeal.S128x1 x Cert.KernelIdeal.Gen.shapeCasts_S1x128_S128x1 (ix2 k 0) = x (ix2 0 k) := by
  pointwise

theorem row_entry (x : FVec Ideal Cert.KernelIdeal.S128 .f32) (k : Fin 128) :
    shapeCast Cert.KernelIdeal.S1x128 x Cert.KernelIdeal.Gen.shapeCasts_S128_S1x128 (ix2 0 k) = x (ix1 k) := by
  pointwise

theorem pool_entry (x : FVec Ideal Cert.KernelIdeal.S1x128 .f32) (k : Fin 128) :
    shapeCast Cert.KernelIdeal.S1x1x128 x Cert.KernelIdeal.Gen.shapeCasts_S1x128_S1x1x128 (ix3 0 0 k) = x (ix2 0 k) := by
  pointwise

theorem last_entry (x : FVec Ideal Cert.KernelIdeal.S10 .f32) (k : Fin 10) :
    shapeCast Cert.KernelIdeal.S1x10 x Cert.KernelIdeal.Gen.shapeCasts_S10_S1x10 (ix2 0 k) = x (ix1 k) := by
  pointwise

theorem folded (y : FVec Ideal Cert.KernelIdeal.S128x128 .f32) (b : Fin 8) (o : Fin 16) (l : Fin 128) :
    shapeCast Cert.KernelIdeal.S8x16x128 y Cert.KernelIdeal.Gen.shapeCasts_S128x128_S8x16x128 (ix3 b o l) = y (ix2 (⟨b.val * 16 + o.val, by omega⟩ : Fin 128) l) := by
  pointwise

/-! The two results. -/

/-- The reference's argument `r` is the kernel's argument `s`. -/
abbrev K (r : Ref Cert.KernelIdeal.sig .tc) : Buf (Elt Ideal) ((c.tc : Thread Cert.KernelIdeal.nD Cert.KernelIdeal.τ).loc r) := m ((c.tc : Thread Cert.KernelIdeal.nD Cert.KernelIdeal.τ).loc r)
abbrev R (r : Ref Cert.ReferenceIdeal.sig .tc) : Buf (Elt Ideal) ((c.tc : Thread Cert.ReferenceIdeal.nD Cert.ReferenceIdeal.τ).loc r) := m' ((c.tc : Thread Cert.ReferenceIdeal.nD Cert.ReferenceIdeal.τ).loc r)

/-- The two programs start with the same arguments. -/
structure Same : Prop where
  a0 : R c m' Cert.ReferenceIdeal.main_arg0 = K m c Cert.KernelIdeal.main_arg0
  a1 : R c m' Cert.ReferenceIdeal.main_arg1 = K m c Cert.KernelIdeal.main_arg1
  a2 : R c m' Cert.ReferenceIdeal.main_arg2 = K m c Cert.KernelIdeal.main_arg2
  a3 : R c m' Cert.ReferenceIdeal.main_arg3 = K m c Cert.KernelIdeal.main_arg3
  a4 : R c m' Cert.ReferenceIdeal.main_arg4 = K m c Cert.KernelIdeal.main_arg4
  a5 : R c m' Cert.ReferenceIdeal.main_arg5 = K m c Cert.KernelIdeal.main_arg5
  a6 : R c m' Cert.ReferenceIdeal.main_arg6 = K m c Cert.KernelIdeal.main_arg6
  a7 : R c m' Cert.ReferenceIdeal.main_arg7 = K m c Cert.KernelIdeal.main_arg7
  a8 : R c m' Cert.ReferenceIdeal.main_arg8 = K m c Cert.KernelIdeal.main_arg8
  a9 : R c m' Cert.ReferenceIdeal.main_arg9 = K m c Cert.KernelIdeal.main_arg9
  a10 : R c m' Cert.ReferenceIdeal.main_arg10 = K m c Cert.KernelIdeal.main_arg10
  a11 : R c m' Cert.ReferenceIdeal.main_arg11 = K m c Cert.KernelIdeal.main_arg11

variable {m c m'} (hs : Same m c m')

include hs

theorem agree_start : Agree (Cert.KernelIdeal.insOf (Cert.KernelIdeal.at' (Cert.KernelIdeal.A1 m)) c) (Cert.ReferenceIdeal.Trips.trip m' c 0) where
  x r t d := by
    refine (congrFun (Cert.KernelIdeal.prep_x m c) _).trans ?_
    refine (input_entry _ r t d).symm.trans ?_
    show _ = Cert.ReferenceIdeal.Step.A_main_v3 (R c m' Cert.ReferenceIdeal.main_arg0) (ix3 t r d)
    rw [hs.a0]
  w1 d q := by
    refine (congrFun (Cert.KernelIdeal.prep_w1 m c) _).trans ?_
    refine (turned _ d q).trans ?_
    show _ = R c m' Cert.ReferenceIdeal.main_arg2 (ix2 q d)
    rw [hs.a2]
  w2 d q := by
    refine (congrFun (Cert.KernelIdeal.prep_w2 m c) _).trans ?_
    refine (turned _ d q).trans ?_
    show _ = R c m' Cert.ReferenceIdeal.main_arg3 (ix2 q d)
    rw [hs.a3]
  b q := by
    refine (congrFun (Cert.KernelIdeal.prep_b m c) _).trans ?_
    refine (bias_entry _ _ q).trans ?_
    have e4 : (Cert.ReferenceIdeal.Trips.trip m' c 0).main_v5_3 = K m c Cert.KernelIdeal.main_arg4 := hs.a4
    have e5 : (Cert.ReferenceIdeal.Trips.trip m' c 0).main_v5_4 = K m c Cert.KernelIdeal.main_arg5 := hs.a5
    rw [e4, e5]

/-- What the pooling kernel writes is what the reference's operations make of the last state. -/
theorem results_eq (hp : Cert.Pre_KernelIdeal_unpadded_finite m) :
    Cert.ReferenceIdeal.Trips.result m' c = Cert.KernelIdeal.A4 m c Cert.KernelIdeal.main_v0 := by
  obtain ⟨hm, hf⟩ := pre_both m c hp
  have L := outOf_eq (trips_ref c m') hm (agree_start hs) (K m c Cert.KernelIdeal.main_arg6) (K m c Cert.KernelIdeal.main_arg7)
    (K m c Cert.KernelIdeal.main_arg8)
    (fun k => (congrFun (Cert.KernelIdeal.prep_aw m c) _).trans (column_entry _ k)) hf
    (fun k l => (congrFun (Cert.KernelIdeal.prep_fw m c) _).trans (turned_fw _ k l))
    (fun l => (congrFun (Cert.KernelIdeal.prep_fb m c) _).trans (row_entry _ l))
  have P := kpool (Cert.KernelIdeal.A3 m c Cert.KernelIdeal.main_call0_v9) (Cert.KernelIdeal.A3 m c Cert.KernelIdeal.main_call0_v10)
    (Cert.KernelIdeal.A3 m c Cert.KernelIdeal.main_call0_v11) (Cert.KernelIdeal.A3 m c Cert.KernelIdeal.main_call0_v12)
    (K m c Cert.KernelIdeal.main_arg11) (K m c Cert.KernelIdeal.main_arg9) (K m c Cert.KernelIdeal.main_arg10)
    (fun l => (congrFun (Cert.KernelIdeal.prep_pw m c) _).trans (pool_entry _ l))
    (fun k n => (congrFun (Cert.KernelIdeal.prep_ow m c) _).trans (turned_ow _ k n))
    (fun n => (congrFun (Cert.KernelIdeal.prep_ob m c) _).trans (last_entry _ n))
  have O : @Eq (FVec Ideal Cert.ReferenceIdeal.S8x16x128 .f32) (Cert.KernelIdeal.A3 m c Cert.KernelIdeal.main_call0_v9)
      (objects (layer (timed (Cert.ReferenceIdeal.Trips.trip m' c 512).main_v5_8 (K m c Cert.KernelIdeal.main_arg1) (K m c Cert.KernelIdeal.main_arg6))
        (K m c Cert.KernelIdeal.main_arg7) (K m c Cert.KernelIdeal.main_arg8)) (K m c Cert.KernelIdeal.main_arg1)) := by
    rw [Cert.KernelIdeal.prep_f, Cert.KernelIdeal.A2_result, L]
    funext i
    obtain ⟨b, o, l, rfl⟩ : ∃ (b : Fin 8) (o : Fin 16) (l : Fin 128), i = ix3 b o l := ⟨i 0, i 1, i 2, eq_ix3 i⟩
    exact (folded _ b o l).trans (objects_apply hm _ b o l).symm
  have E : Cert.ReferenceIdeal.Trips.result m' c
      = Cert.ReferenceIdeal.Step.R_main_v66 (Cert.ReferenceIdeal.Trips.trip m' c 512) (R c m' Cert.ReferenceIdeal.main_arg1)
        (R c m' Cert.ReferenceIdeal.main_arg6) (R c m' Cert.ReferenceIdeal.main_arg7) (R c m' Cert.ReferenceIdeal.main_arg8)
        (R c m' Cert.ReferenceIdeal.main_arg9) (R c m' Cert.ReferenceIdeal.main_arg10) (R c m' Cert.ReferenceIdeal.main_arg11) := rfl
  rw [E, hs.a1, hs.a6, hs.a7, hs.a8, hs.a9, hs.a10, hs.a11, Cert.KernelIdeal.A4_result]
  refine (result_eq _ _ _ _ _ _ _ _).trans (Eq.trans ?_ P.symm)
  rw [O]

omit hs

theorem algebraic : Cert.algebraic_KernelIdeal_ReferenceIdeal_pre_unpadded_finite := by
  intro m g m' g' hp hagree
  refine ⟨fun c => Cert.KernelIdeal.A4 m c Cert.KernelIdeal.main_v0, ?_, ?_⟩
  · exact (θ_run Cert.KernelIdeal.defs _ _).mono
      (fun _ h c => ⟨Cert.KernelIdeal.read_ref m c (h.1 c) Cert.KernelIdeal.main_v0 rfl, Cert.KernelIdeal.args_kept m c (h.1 c)⟩)
      (Cert.KernelIdeal.run_all m g)
  · refine (θ_run Cert.ReferenceIdeal.defs _ _).mono (fun r h c => ⟨?_, (h c).2⟩) (Cert.ReferenceIdeal.Value.run m' g')
    obtain ⟨e0, e1, e2, e3, e4, e5, e6, e7, e8, e9, e10, e11⟩ := hagree c
    exact ((h c).1.trans (Cert.ReferenceIdeal.Trips.out_eq m' c)).trans
      (results_eq ⟨e0, e1, e2, e3, e4, e5, e6, e7, e8, e9, e10, e11⟩ hp)

end Cert.Proof

end
-- ==== Proof.lean ====
/-
  The certificate: the frames, that idealizing changed no operation, and the kernel's result against the reference's.
-/
module

public import proofs.«01_k».proof.Defs
public import proofs.«01_k».proof.Proof.Frames
public import proofs.«01_k».proof.Proof.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, preFacts,
    frame_kernel, frame_ideal, fun m ρ _ => frame_ideal m ρ trivial,
    frame_reference, fun m ρ _ => frame_reference m ρ trivial, trivial, algebraic⟩

end Cert.Proof

end
